-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32768x4352 : Shape := ⟨2, ![32768, 4352]⟩
abbrev S1x128 : Shape := ⟨2, ![1, 128]⟩
abbrev S2x512 : Shape := ⟨2, ![2, 512]⟩
abbrev S128 : Shape := ⟨1, ![128]⟩
abbrev S32768x512 : Shape := ⟨2, ![32768, 512]⟩
abbrev S512x512 : Shape := ⟨2, ![512, 512]⟩
abbrev S4x128x128 : Shape := ⟨3, ![4, 128, 128]⟩
abbrev S512 : Shape := ⟨1, ![512]⟩
abbrev S1x512 : Shape := ⟨2, ![1, 512]⟩
abbrev S64x64 : Shape := ⟨2, ![64, 64]⟩
abbrev S64x512 : Shape := ⟨2, ![64, 512]⟩
abbrev S1x128x128 : Shape := ⟨3, ![1, 128, 128]⟩
abbrev S128x128 : Shape := ⟨2, ![128, 128]⟩
abbrev S64x128 : Shape := ⟨2, ![64, 128]⟩
abbrev S64 : Shape := ⟨1, ![64]⟩
abbrev S64x1 : Shape := ⟨2, ![64, 1]⟩

abbrev nBuf : Space → Nat
  | .hbm => 6
  | .vmem => 13
  | .smem => 0
  | _ => 0

abbrev bufTy : (tb : Table) → Fin (tcTables nBuf tb) → BufTy
  | .hbm, ⟨0, _⟩ => ⟨S32768x4352, .f32⟩
  | .hbm, ⟨1, _⟩ => ⟨S1x128, .f32⟩
  | .hbm, ⟨2, _⟩ => ⟨S2x512, .f32⟩
  | .hbm, ⟨3, _⟩ => ⟨S128, .f32⟩
  | .hbm, ⟨4, _⟩ => ⟨S1x128, .f32⟩
  | .hbm, ⟨5, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2x512, .f32⟩
  | .local _ .vmem, ⟨9, _⟩ => ⟨S1x128, .f32⟩
  | .local _ .vmem, ⟨10, _⟩ => ⟨S512x512, .f32⟩
  | .local _ .vmem, ⟨11, _⟩ => ⟨S512x512, .f32⟩
  | .local _ .vmem, ⟨12, _⟩ => ⟨S4x128x128, .f32⟩
  | _, _ => ⟨S32768x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_5 : BitVec 32 := 0#32
  let c8_i32 : BitVec 32 := 8#32
  let v21 : BitVec 32 := Scalar.addi c0_i32_5 c8_i32
  let c1_i32 : BitVec 32 := 1#32
  ⟨c0_i32_5, v21, c1_i32⟩
def k0_mult1 (k0_t1 : Fin k0_t1_loop.trips) : BitVec 32 :=
  let c0_i32_5 : BitVec 32 := 0#32
  let c1_i32 : BitVec 32 := 1#32
  let arg10 : BitVec 32 := Scf.iv c0_i32_5 c1_i32 k0_t1
  let c64_i32 : BitVec 32 := 64#32
  let v22 : BitVec 32 := Scalar.muli arg10 c64_i32
  v22
def k0_off1 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v22 : BitVec 32 := Scalar.muli arg10 c64_i32
  let v23 : BitVec 32 := v22
  let v26 : Index := Scalar.indexCast v23
  let c0_8 : Index := 0#32
  ![v26.toNat, 0]
def k0_off2 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v22 : BitVec 32 := Scalar.muli arg10 c64_i32
  let v23 : BitVec 32 := v22
  let v106 : Index := Scalar.indexCast v23
  let c0_30 : Index := 0#32
  ![v106.toNat, 0]
def k0_off3 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v22 : BitVec 32 := Scalar.muli arg10 c64_i32
  let v23 : BitVec 32 := v22
  let v148 : Index := Scalar.indexCast v23
  let c128 : Index := 128#32
  ![v148.toNat, 128]
def k0_off4 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v22 : BitVec 32 := Scalar.muli arg10 c64_i32
  let v23 : BitVec 32 := v22
  let v190 : Index := Scalar.indexCast v23
  let c256 : Index := 256#32
  ![v190.toNat, 256]
def k0_off5 (k0_t1 : Fin k0_t1_loop.trips) : Fin 2 → Nat :=
  let c0_i32_5 : BitVec 32 := 0#32
  let c1_i32 : BitVec 32 := 1#32
  let arg10 : BitVec 32 := Scf.iv c0_i32_5 c1_i32 k0_t1
  let c64_i32 : BitVec 32 := 64#32
  let v22 : BitVec 32 := Scalar.muli arg10 c64_i32
  let v23 : BitVec 32 := v22
  let v232 : Index := Scalar.indexCast v23
  let c384 : Index := 384#32
  ![v232.toNat, 384]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x4352 : Shape := ⟨2, ![32768, 4352]⟩
abbrev S1x128 : Shape := ⟨2, ![1, 128]⟩
abbrev S2x512 : Shape := ⟨2, ![2, 512]⟩
abbrev S_ : Shape := ⟨0, ![]⟩
abbrev S512 : Shape := ⟨1, ![512]⟩
abbrev S1x512 : Shape := ⟨2, ![1, 512]⟩
abbrev S16x2048x4352 : Shape := ⟨3, ![16, 2048, 4352]⟩
abbrev S16x2048x512 : Shape := ⟨3, ![16, 2048, 512]⟩
abbrev S1x1x512 : Shape := ⟨3, ![1, 1, 512]⟩
abbrev S16x32x64x4x128 : Shape := ⟨5, ![16, 32, 64, 4, 128]⟩
abbrev S16x4x32x64x128 : Shape := ⟨5, ![16, 4, 32, 64, 128]⟩
abbrev S16x4x32x1x128 : Shape := ⟨5, ![16, 4, 32, 1, 128]⟩
abbrev S64x64 : Shape := ⟨2, ![64, 64]⟩
abbrev S16x4x32x64x64 : Shape := ⟨5, ![16, 4, 32, 64, 64]⟩
abbrev S16x4x128x128 : Shape := ⟨4, ![16, 4, 128, 128]⟩
abbrev S32x16x4x64x128 : Shape := ⟨5, ![32, 16, 4, 64, 128]⟩
abbrev S16x4x32x128 : Shape := ⟨4, ![16, 4, 32, 128]⟩
abbrev S32x16x4x128 : Shape := ⟨4, ![32, 16, 4, 128]⟩
abbrev S1x16x4x64x128 : Shape := ⟨5, ![1, 16, 4, 64, 128]⟩
abbrev S16x4x64x128 : Shape := ⟨4, ![16, 4, 64, 128]⟩
abbrev S1x16x4x128 : Shape := ⟨4, ![1, 16, 4, 128]⟩
abbrev S16x4x128 : Shape := ⟨3, ![16, 4, 128]⟩
abbrev S16x4x128x1 : Shape := ⟨4, ![16, 4, 128, 1]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S128 : Shape := ⟨1, ![128]⟩
abbrev S1x1x1x128 : Shape := ⟨4, ![1, 1, 1, 128]⟩
abbrev S32768x512 : Shape := ⟨2, ![32768, 512]⟩

abbrev nBuf : Space → Nat
  | .hbm => 194
  | .vmem => 0
  | .smem => 0
  | _ => 0

abbrev hbmTy0_0 (i : Nat) : BufTy := match i % 128 with
  | 0 => ⟨S32768x4352, .f32⟩
  | 1 => ⟨S1x128, .f32⟩
  | 2 => ⟨S2x512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S16x2048x4352, .f32⟩
  | 23 => ⟨S16x2048x512, .f32⟩
  | 24 => ⟨S16x2048x512, .f32⟩
  | 25 => ⟨S16x2048x512, .f32⟩
  | 26 => ⟨S_, .f32⟩
  | 27 => ⟨S512, .f32⟩
  | 28 => ⟨S512, .f32⟩
  | 29 => ⟨S16x2048x512, .f32⟩
  | 30 => ⟨S16x2048x512, .f32⟩
  | 31 => ⟨S_, .f32⟩
  | 32 => ⟨S16x2048x512, .f32⟩
  | 33 => ⟨S16x2048x512, .f32⟩
  | 34 => ⟨S_, .f32⟩
  | 35 => ⟨S16x2048x512, .f32⟩
  | 36 => ⟨S16x2048x512, .f32⟩
  | 37 => ⟨S1x1x512, .f32⟩
  | 38 => ⟨S16x2048x512, .f32⟩
  | 39 => ⟨S16x2048x512, .f32⟩
  | 40 => ⟨S1x1x512, .f32⟩
  | 41 => ⟨S16x2048x512, .f32⟩
  | 42 => ⟨S16x2048x512, .f32⟩
  | 43 => ⟨S16x2048x512, .f32⟩
  | 44 => ⟨S_, .f32⟩
  | 45 => ⟨S16x2048x512, .f32⟩
  | 46 => ⟨S16x2048x512, .f32⟩
  | 47 => ⟨S16x2048x512, .f32⟩
  | 48 => ⟨S16x2048x512, .f32⟩
  | 49 => ⟨S_, .f32⟩
  | 50 => ⟨S16x2048x512, .f32⟩
  | 51 => ⟨S16x2048x512, .f32⟩
  | 52 => ⟨S_, .f32⟩
  | 53 => ⟨S16x2048x512, .f32⟩
  | 54 => ⟨S16x2048x512, .f32⟩
  | 55 => ⟨S16x32x64x4x128, .f32⟩
  | 56 => ⟨S16x4x32x64x128, .f32⟩
  | 57 => ⟨S16x32x64x4x128, .f32⟩
  | 58 => ⟨S16x4x32x64x128, .f32⟩
  | 59 => ⟨S16x32x64x4x128, .f32⟩
  | 60 => ⟨S16x4x32x64x128, .f32⟩
  | 61 => ⟨S16x32x64x4x128, .f32⟩
  | 62 => ⟨S16x4x32x64x128, .f32⟩
  | 63 => ⟨S_, .f32⟩
  | 64 => ⟨S_, .f32⟩
  | 65 => ⟨S16x4x32x64x128, .f32⟩
  | 66 => ⟨S16x4x32x1x128, .f32⟩
  | 67 => ⟨S16x4x32x64x128, .f32⟩
  | 68 => ⟨S16x4x32x64x128, .f32⟩
  | 69 => ⟨S16x4x32x64x128, .f32⟩
  | 70 => ⟨S16x4x32x64x128, .f32⟩
  | 71 => ⟨S16x4x32x64x128, .f32⟩
  | 72 => ⟨S16x4x32x64x128, .f32⟩
  | 73 => ⟨S16x4x32x64x128, .f32⟩
  | 74 => ⟨S16x4x32x64x128, .f32⟩
  | 75 => ⟨S16x4x32x64x128, .f32⟩
  | 76 => ⟨S_, .i1⟩
  | 77 => ⟨S64x64, .i1⟩
  | 78 => ⟨S64x64, .i32⟩
  | 79 => ⟨S_, .i32⟩
  | 80 => ⟨S64x64, .i32⟩
  | 81 => ⟨S64x64, .i32⟩
  | 82 => ⟨S64x64, .i32⟩
  | 83 => ⟨S64x64, .i1⟩
  | 84 => ⟨S_, .i1⟩
  | 85 => ⟨S64x64, .i1⟩
  | 86 => ⟨S64x64, .i1⟩
  | 87 => ⟨S16x4x32x64x64, .f32⟩
  | 88 => ⟨S_, .f32⟩
  | 89 => ⟨S_, .f32⟩
  | 90 => ⟨S16x4x32x64x64, .i1⟩
  | 91 => ⟨S16x4x32x64x64, .f32⟩
  | 92 => ⟨S16x4x32x64x64, .f32⟩
  | 93 => ⟨S16x4x32x64x128, .f32⟩
  | 94 => ⟨S_, .f32⟩
  | 95 => ⟨S16x4x128x128, .f32⟩
  | 96 => ⟨S32x16x4x64x128, .f32⟩
  | 97 => ⟨S32x16x4x64x128, .f32⟩
  | 98 => ⟨S32x16x4x64x128, .f32⟩
  | 99 => ⟨S32x16x4x64x128, .f32⟩
  | 100 => ⟨S16x4x32x128, .f32⟩
  | 101 => ⟨S16x4x32x128, .f32⟩
  | 102 => ⟨S32x16x4x128, .f32⟩
  | 103 => ⟨S_, .f32⟩
  | 104 => ⟨S32x16x4x64x128, .f32⟩
  | 105 => ⟨S_, .i32⟩
  | 106 => ⟨S32x16x4x64x128, .f32⟩
  | 107 => ⟨S32x16x4x64x128, .f32⟩
  | 108 => ⟨S32x16x4x64x128, .f32⟩
  | 109 => ⟨S32x16x4x64x128, .f32⟩
  | 110 => ⟨S32x16x4x128, .f32⟩
  | 111 => ⟨S_, .i32⟩
  | 112 => ⟨S16x4x128x128, .f32⟩
  | 113 => ⟨S32x16x4x64x128, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S1x16x4x64x128, .f32⟩
  | 121 => ⟨S16x4x64x128, .f32⟩
  | 122 => ⟨S_, .i32⟩
  | 123 => ⟨S_, .i32⟩
  | 124 => ⟨S_, .i32⟩
  | 125 => ⟨S_, .i32⟩
  | 126 => ⟨S1x16x4x64x128, .f32⟩
  | 127 => ⟨S16x4x64x128, .f32⟩
  | _ => ⟨S32768x4352, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x16x4x64x128, .f32⟩
  | 5 => ⟨S16x4x64x128, .f32⟩
  | 6 => ⟨S_, .i32⟩
  | 7 => ⟨S_, .i32⟩
  | 8 => ⟨S_, .i32⟩
  | 9 => ⟨S_, .i32⟩
  | 10 => ⟨S1x16x4x64x128, .f32⟩
  | 11 => ⟨S16x4x64x128, .f32⟩
  | 12 => ⟨S_, .i32⟩
  | 13 => ⟨S_, .i32⟩
  | 14 => ⟨S_, .i32⟩
  | 15 => ⟨S1x16x4x128, .f32⟩
  | 16 => ⟨S16x4x128, .f32⟩
  | 17 => ⟨S16x4x64x128, .f32⟩
  | 18 => ⟨S16x4x64x128, .f32⟩
  | 19 => ⟨S16x4x128x1, .f32⟩
  | 20 => ⟨S16x4x128x128, .f32⟩
  | 21 => ⟨S16x4x128x128, .f32⟩
  | 22 => ⟨S16x4x128x128, .f32⟩
  | 23 => ⟨S16x4x128x128, .f32⟩
  | 24 => ⟨S1x16x4x64x128, .f32⟩
  | 25 => ⟨S_, .i32⟩
  | 26 => ⟨S_, .i32⟩
  | 27 => ⟨S_, .i32⟩
  | 28 => ⟨S_, .i32⟩
  | 29 => ⟨S32x16x4x64x128, .f32⟩
  | 30 => ⟨S_, .i32⟩
  | 31 => ⟨S_, .i32⟩
  | 32 => ⟨S16x4x32x64x128, .f32⟩
  | 33 => ⟨S16x32x64x4x128, .f32⟩
  | 34 => ⟨S16x2048x4x128, .f32⟩
  | 35 => ⟨S16x2048x4x128, .f32⟩
  | 36 => ⟨S_, .f32⟩
  | 37 => ⟨S16x2048x4, .f32⟩
  | 38 => ⟨S16x2048x4x1, .f32⟩
  | 39 => ⟨S_, .f32⟩
  | 40 => ⟨S16x2048x4x1, .f32⟩
  | 41 => ⟨S16x2048x4x1, .f32⟩
  | 42 => ⟨S_, .f32⟩
  | 43 => ⟨S16x2048x4x1, .f32⟩
  | 44 => ⟨S16x2048x4x1, .f32⟩
  | 45 => ⟨S16x2048x4x1, .f32⟩
  | 46 => ⟨S16x2048x4x128, .f32⟩
  | 47 => ⟨S16x2048x4x128, .f32⟩
  | 48 => ⟨S128, .f32⟩
  | 49 => ⟨S1x1x1x128, .f32⟩
  | 50 => ⟨S16x2048x4x128, .f32⟩
  | 51 => ⟨S16x2048x4x128, .f32⟩
  | 52 => ⟨S16x2048x4352, .f32⟩
  | 53 => ⟨S16x2048x512, .f32⟩
  | 54 => ⟨S16x2048x512, .f32⟩
  | 55 => ⟨S16x2048x512, .f32⟩
  | 56 => ⟨S16x2048x512, .f32⟩
  | 57 => ⟨S_, .f32⟩
  | 58 => ⟨S16x2048x512, .f32⟩
  | 59 => ⟨S16x2048x512, .f32⟩
  | 60 => ⟨S_, .f32⟩
  | 61 => ⟨S16x2048x512, .f32⟩
  | 62 => ⟨S16x2048x512, .f32⟩
  | 63 => ⟨S16x2048x512, .f32⟩
  | 64 => ⟨S16x2048x512, .f32⟩
  | 65 => ⟨S32768x512, .f32⟩
  | _ => ⟨S32768x4352, .f32⟩

abbrev hbmTy (i : Nat) : BufTy := match i / 128 with
  | 0 => hbmTy0_0 i
  | 1 => hbmTy0_1 i
  | _ => ⟨S32768x4352, .f32⟩

abbrev bufTy : (tb : Table) → Fin (tcTables nBuf tb) → BufTy
  | .hbm, ⟨i, _⟩ => hbmTy i
  | _, _ => ⟨S32768x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call1_call0_cst : Ref sig .tc := ⟨.hbm, 63, rfl⟩
abbrev main_call1_call0_v0 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c : Ref sig .tc := ⟨.hbm, 76, rfl⟩
abbrev main_v60 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_0 : Ref sig .tc := ⟨.hbm, 84, rfl⟩
abbrev main_call2_v5 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_10 : Ref sig .tc := ⟨.hbm, 103, rfl⟩
abbrev main_v73 : Ref sig .tc := ⟨.hbm, 104, rfl⟩
abbrev main_c_11 : Ref sig .tc := ⟨.hbm, 105, rfl⟩
abbrev main_v74_0 : Ref sig .tc := ⟨.hbm, 106, rfl⟩
abbrev main_v74_1 : Ref sig .tc := ⟨.hbm, 107, rfl⟩
abbrev main_v74_2 : Ref sig .tc := ⟨.hbm, 108, rfl⟩
abbrev main_v74_3 : Ref sig .tc := ⟨.hbm, 109, rfl⟩
abbrev main_v74_4 : Ref sig .tc := ⟨.hbm, 110, rfl⟩
abbrev main_v74_5 : Ref sig .tc := ⟨.hbm, 111, rfl⟩
abbrev main_v74_6 : Ref sig .tc := ⟨.hbm, 112, rfl⟩
abbrev main_v74_7 : Ref sig .tc := ⟨.hbm, 113, rfl⟩
abbrev main_while0c_c_22 : Ref sig .tc := ⟨.hbm, 114, rfl⟩
abbrev main_while0c_v98 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_c_2 : Ref sig .tc := ⟨.hbm, 119, rfl⟩
abbrev main_while0b_call4_v0 : Ref sig .tc := ⟨.hbm, 120, rfl⟩
abbrev main_while0b_v98 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_c_1 : Ref sig .tc := ⟨.hbm, 124, rfl⟩
abbrev main_while0b_call5_c_2 : Ref sig .tc := ⟨.hbm, 125, rfl⟩
abbrev main_while0b_call5_v0 : Ref sig .tc := ⟨.hbm, 126, rfl⟩
abbrev main_while0b_v99 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_c_1 : Ref sig .tc := ⟨.hbm, 130, rfl⟩
abbrev main_while0b_call6_c_2 : Ref sig .tc := ⟨.hbm, 131, rfl⟩
abbrev main_while0b_call6_v0 : Ref sig .tc := ⟨.hbm, 132, rfl⟩
abbrev main_while0b_v100 : Ref sig .tc := ⟨.hbm, 133, rfl⟩
abbrev main_while0b_call7_c : Ref sig .tc := ⟨.hbm, 134, rfl⟩
abbrev main_while0b_call7_c_0 : Ref sig .tc := ⟨.hbm, 135, rfl⟩
abbrev main_while0b_call7_c_1 : Ref sig .tc := ⟨.hbm, 136, rfl⟩
abbrev main_while0b_call7_c_2 : Ref sig .tc := ⟨.hbm, 137, rfl⟩
abbrev main_while0b_call7_v0 : Ref sig .tc := ⟨.hbm, 138, rfl⟩
abbrev main_while0b_v101 : Ref sig .tc := ⟨.hbm, 139, rfl⟩
abbrev main_while0b_call8_c : Ref sig .tc := ⟨.hbm, 140, rfl⟩
abbrev main_while0b_call8_c_0 : Ref sig .tc := ⟨.hbm, 141, rfl⟩
abbrev main_while0b_call8_c_1 : Ref sig .tc := ⟨.hbm, 142, rfl⟩
abbrev main_while0b_call8_v0 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_call9_v0 : Ref sig .tc := ⟨.hbm, 152, rfl⟩
abbrev main_while0b_call9_c : Ref sig .tc := ⟨.hbm, 153, rfl⟩
abbrev main_while0b_call9_c_0 : Ref sig .tc := ⟨.hbm, 154, rfl⟩
abbrev main_while0b_call9_c_1 : Ref sig .tc := ⟨.hbm, 155, rfl⟩
abbrev main_while0b_call9_c_2 : Ref sig .tc := ⟨.hbm, 156, rfl⟩
abbrev main_while0b_v110 : Ref sig .tc := ⟨.hbm, 157, rfl⟩
abbrev main_while0b_c_22 : Ref sig .tc := ⟨.hbm, 158, rfl⟩
abbrev main_while0b_v111 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_cst_12 : Ref sig .tc := ⟨.hbm, 164, rfl⟩
abbrev main_v79 : Ref sig .tc := ⟨.hbm, 165, rfl⟩
abbrev main_v80 : Ref sig .tc := ⟨.hbm, 166, rfl⟩
abbrev main_cst_13 : Ref sig .tc := ⟨.hbm, 167, rfl⟩
abbrev main_v81 : Ref sig .tc := ⟨.hbm, 168, rfl⟩
abbrev main_v82 : Ref sig .tc := ⟨.hbm, 169, rfl⟩
abbrev main_cst_14 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_call10_v0 : Ref sig .tc := ⟨.hbm, 183, rfl⟩
abbrev main_call10_v1 : Ref sig .tc := ⟨.hbm, 184, rfl⟩
abbrev main_call10_cst : Ref sig .tc := ⟨.hbm, 185, rfl⟩
abbrev main_call10_v2 : Ref sig .tc := ⟨.hbm, 186, rfl⟩
abbrev main_call10_v3 : Ref sig .tc := ⟨.hbm, 187, rfl⟩
abbrev main_call10_cst_0 : Ref sig .tc := ⟨.hbm, 188, rfl⟩
abbrev main_call10_v4 : Ref sig .tc := ⟨.hbm, 189, rfl⟩
abbrev main_call10_v5 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16x2048x1024 : Shape := ⟨3, ![16, 2048, 1024]⟩
abbrev S1x1024 : Shape := ⟨2, ![1, 1024]⟩
abbrev S1x1024x6400 : Shape := ⟨3, ![1, 1024, 6400]⟩
abbrev S32768x512 : Shape := ⟨2, ![32768, 512]⟩
abbrev S32768x256 : Shape := ⟨2, ![32768, 256]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S32768x1024 : Shape := ⟨2, ![32768, 1024]⟩
abbrev S1024x6400 : Shape := ⟨2, ![1024, 6400]⟩
abbrev S1024x2048 : Shape := ⟨2, ![1024, 2048]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x2048 : Shape := ⟨2, ![256, 2048]⟩

abbrev nBuf : Space → Nat
  | .hbm => 29
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x6400, .f32⟩
  | .hbm, ⟨3, _⟩ => ⟨S32768x512, .f32⟩
  | .hbm, ⟨4, _⟩ => ⟨S32768x256, .f32⟩
  | .hbm, ⟨5, _⟩ => ⟨S1x512x1024, .f32⟩
  | .hbm, ⟨6, _⟩ => ⟨S1x256x1024, .f32⟩
  | .hbm, ⟨7, _⟩ => ⟨S1x1024x1024, .f32⟩
  | .hbm, ⟨8, _⟩ => ⟨S1x1024, .f32⟩
  | .hbm, ⟨9, _⟩ => ⟨S1x1024x1024, .f32⟩
  | .hbm, ⟨10, _⟩ => ⟨S32768x1024, .f32⟩
  | .hbm, ⟨11, _⟩ => ⟨S1024x6400, .f32⟩
  | .hbm, ⟨12, _⟩ => ⟨S1024x2048, .f32⟩
  | .hbm, ⟨13, _⟩ => ⟨S1024, .f32⟩
  | .hbm, ⟨14, _⟩ => ⟨S1024x2048, .bf16⟩
  | .hbm, ⟨15, _⟩ => ⟨S512x1024, .f32⟩
  | .hbm, ⟨16, _⟩ => ⟨S512x1024, .bf16⟩
  | .hbm, ⟨17, _⟩ => ⟨S256x1024, .f32⟩
  | .hbm, ⟨18, _⟩ => ⟨S256x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S512x1024, .bf16⟩
  | .local _ .vmem, ⟨9, _⟩ => ⟨S256x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16x2048x1024 : Shape := ⟨3, ![16, 2048, 1024]⟩
abbrev S1x1024 : Shape := ⟨2, ![1, 1024]⟩
abbrev S1x1024x6400 : Shape := ⟨3, ![1, 1024, 6400]⟩
abbrev S32768x512 : Shape := ⟨2, ![32768, 512]⟩
abbrev S32768x256 : Shape := ⟨2, ![32768, 256]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x6400 : Shape := ⟨2, ![1024, 6400]⟩
abbrev S32768x6400 : Shape := ⟨2, ![32768, 6400]⟩
abbrev S512x1024 : Shape := ⟨2, ![512, 1024]⟩
abbrev S256x1024 : Shape := ⟨2, ![256, 1024]⟩
abbrev S1024x1024 : Shape := ⟨2, ![1024, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x6400, .f32⟩
  | .hbm, ⟨3, _⟩ => ⟨S32768x512, .f32⟩
  | .hbm, ⟨4, _⟩ => ⟨S32768x256, .f32⟩
  | .hbm, ⟨5, _⟩ => ⟨S1x512x1024, .f32⟩
  | .hbm, ⟨6, _⟩ => ⟨S1x256x1024, .f32⟩
  | .hbm, ⟨7, _⟩ => ⟨S1x1024x1024, .f32⟩
  | .hbm, ⟨8, _⟩ => ⟨S1x1024, .f32⟩
  | .hbm, ⟨9, _⟩ => ⟨S1x1024x1024, .f32⟩
  | .hbm, ⟨10, _⟩ => ⟨S32768x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S1024x6400, .f32⟩
  | .hbm, ⟨29, _⟩ => ⟨S32768x6400, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S512x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S256x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S1024x1024, .f32⟩
  | .hbm, ⟨56, _⟩ => ⟨S32768x1024, .f32⟩
  | .hbm, ⟨57, _⟩ => ⟨S32768x1024, .f32⟩
  | .hbm, ⟨58, _⟩ => ⟨S1024, .f32⟩
  | .hbm, ⟨59, _⟩ => ⟨S32768x1024, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S_, .f32⟩
  | .hbm, ⟨67, _⟩ => ⟨S32768x1, .f32⟩
  | .hbm, ⟨68, _⟩ => ⟨S32768x1, .f32⟩
  | .hbm, ⟨69, _⟩ => ⟨S32768x1, .f32⟩
  | .hbm, ⟨70, _⟩ => ⟨S32768x1024, .f32⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S32768x1024, .f32⟩
  | .hbm, ⟨75, _⟩ => ⟨S1024x1024, .f32⟩
  | .hbm, ⟨76, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x6400 : Shape := ⟨3, ![1, 1024, 6400]⟩
abbrev S32768x1024 : Shape := ⟨2, ![32768, 1024]⟩
abbrev S1024x6400 : Shape := ⟨2, ![1024, 6400]⟩
abbrev S1024x4352 : Shape := ⟨2, ![1024, 4352]⟩
abbrev S1024 : Shape := ⟨1, ![1024]⟩
abbrev S32768x4352 : Shape := ⟨2, ![32768, 4352]⟩
abbrev S1024x1024 : Shape := ⟨2, ![1024, 1024]⟩
abbrev S1024x2176 : Shape := ⟨2, ![1024, 2176]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x6400, .f32⟩
  | .hbm, ⟨3, _⟩ => ⟨S32768x1024, .f32⟩
  | .hbm, ⟨4, _⟩ => ⟨S1024x6400, .f32⟩
  | .hbm, ⟨5, _⟩ => ⟨S1024x4352, .f32⟩
  | .hbm, ⟨6, _⟩ => ⟨S1024, .f32⟩
  | .hbm, ⟨7, _⟩ => ⟨S1024x4352, .bf16⟩
  | .hbm, ⟨8, _⟩ => ⟨S1x1024, .f32⟩
  | .hbm, ⟨9, _⟩ => ⟨S32768x4352, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2176, .bf16⟩
  | .local _ .vmem, ⟨4, _⟩ => ⟨S1024x2176, .bf16⟩
  | .local _ .vmem, ⟨5, _⟩ => ⟨S1024x2176, .f32⟩
  | .local _ .vmem, ⟨6, _⟩ => ⟨S1024x2176, .f32⟩
  | .local _ .vmem, ⟨7, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x2048x1024 : Shape := ⟨3, ![16, 2048, 1024]⟩
abbrev S1x1024 : Shape := ⟨2, ![1, 1024]⟩
abbrev S1x1024x6400 : Shape := ⟨3, ![1, 1024, 6400]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x6400 : Shape := ⟨2, ![1024, 6400]⟩
abbrev S32768x6400 : Shape := ⟨2, ![32768, 6400]⟩
abbrev S32768x4352 : Shape := ⟨2, ![32768, 4352]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x6400, .f32⟩
  | .hbm, ⟨3, _⟩ => ⟨S32768x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x6400, .f32⟩
  | .hbm, ⟨22, _⟩ => ⟨S32768x6400, .f32⟩
  | .hbm, ⟨23, _⟩ => ⟨S32768x4352, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Hgrn.Indep.lean ====
/- The chunk loop of the recurrence kernel loads its output block only to discard what it loaded, so the pieces a trip
   stores do not depend on what the output block held: stated for one trip and for any number of them. -/
module

public import proofs.«01_k».proof.Proof.Gen.KernelIdeal.Frame.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What one trip stores into the output block doesn't depend on what the block held before. -/
theorem trip_out_indep (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec F S2x512 .f32) (v13 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
    (f f' : BufTy.Contents (Elt F) arg8.view.ty) (g : BufTy.Contents (Elt F) arg9.view.ty) :
    (trip_k0_t1 (F := F) 𝒱 c bd i arg2 harg2 arg3 harg3 arg4 harg4 arg5 harg5 arg6 harg6 arg7 harg7 arg8 harg8 arg9 harg9 v3 v13 X_arg2 X_arg3 X_arg4 X_arg5 k).1 f g = (trip_k0_t1 (F := F) 𝒱 c bd i arg2 harg2 arg3 harg3 arg4 harg4 arg5 harg5 arg6 harg6 arg7 harg7 arg8 harg8 arg9 harg9 v3 v13 X_arg2 X_arg3 X_arg4 X_arg5 k).1 f' g := by
  unfold trip_k0_t1
  rfl

/-- What one trip stores into the state doesn't depend on what the output block held before. -/
theorem trip_state_indep (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec F S2x512 .f32) (v13 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
    (f f' : BufTy.Contents (Elt F) arg8.view.ty) (g : BufTy.Contents (Elt F) arg9.view.ty) :
    (trip_k0_t1 (F := F) 𝒱 c bd i arg2 harg2 arg3 harg3 arg4 harg4 arg5 harg5 arg6 harg6 arg7 harg7 arg8 harg8 arg9 harg9 v3 v13 X_arg2 X_arg3 X_arg4 X_arg5 k).2.1 f g = (trip_k0_t1 (F := F) 𝒱 c bd i arg2 harg2 arg3 harg3 arg4 harg4 arg5 harg5 arg6 harg6 arg7 harg7 arg8 harg8 arg9 harg9 v3 v13 X_arg2 X_arg3 X_arg4 X_arg5 k).2.1 f' g := by
  unfold trip_k0_t1
  rfl

/-- What the first `n` trips store doesn't depend on what the output block held before the loop. -/
theorem trips_indep (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec F S2x512 .f32) (v13 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty)
    (f f' : BufTy.Contents (Elt F) arg8.view.ty) (g : BufTy.Contents (Elt F) arg9.view.ty) (n : ℕ) :
    pb_k0_t1 (F := F) 𝒱 c bd i arg2 harg2 arg3 harg3 arg4 harg4 arg5 harg5 arg6 harg6 arg7 harg7 arg8 harg8 arg9 harg9 v3 v13 X_arg2 X_arg3 X_arg4 X_arg5 f g n = pb_k0_t1 (F := F) 𝒱 c bd i arg2 harg2 arg3 harg3 arg4 harg4 arg5 harg5 arg6 harg6 arg7 harg7 arg8 harg8 arg9 harg9 v3 v13 X_arg2 X_arg3 X_arg4 X_arg5 f' g n := by
  induction n with
  | zero => rfl
  | succ n ih =>
    unfold pb_k0_t1
    rw [ih]
    unfold pb_k0_t1Step
    split
    · dsimp only
      rw [trip_out_indep (F := F) 𝒱 c bd i arg2 harg2 arg3 harg3 arg4 harg4 arg5 harg5 arg6 harg6 arg7 harg7 arg8 harg8 arg9 harg9 v3 v13 X_arg2 X_arg3 X_arg4 X_arg5 ⟨n, by assumption⟩ _ (arg8.view.writes (Elt F) f' (pb_k0_t1 (F := F) 𝒱 c bd i arg2 harg2 arg3 harg3 arg4 harg4 arg5 harg5 arg6 harg6 arg7 harg7 arg8 harg8 arg9 harg9 v3 v13 X_arg2 X_arg3 X_arg4 X_arg5 f' g n).1),
        trip_state_indep (F := F) 𝒱 c bd i arg2 harg2 arg3 harg3 arg4 harg4 arg5 harg5 arg6 harg6 arg7 harg7 arg8 harg8 arg9 harg9 v3 v13 X_arg2 X_arg3 X_arg4 X_arg5 ⟨n, by assumption⟩ _ (arg8.view.writes (Elt F) f' (pb_k0_t1 (F := F) 𝒱 c bd i arg2 harg2 arg3 harg3 arg4 harg4 arg5 harg5 arg6 harg6 arg7 harg7 arg8 harg8 arg9 harg9 v3 v13 X_arg2 X_arg3 X_arg4 X_arg5 f' g n).1)]
    · rfl

end Cert.KernelIdeal.Hand

end
-- ==== Proof.Hgrn.RunA.lean ====
/- The run of the recurrence kernel's body at the first block of a sequence, where the state is reset. -/
module

public import proofs.«01_k».proof.Proof.Hgrn.Indep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE A (`scf.if` 0 taken: points 0, 4, … 60: 16 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x512 .f32) (x1 : Vec F S512x512 .f32) (x2 : Vec F S512x512 .f32) (x3 : Vec F S512x512 .f32) (x4 : Vec F S2x512 .f32) (x5 : Vec F S1x128 .f32) :
    Σ' (L6 : List (View.Piece (Elt F) S512x512 .f32)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_hgrn i arg2 harg2 arg3 harg3 arg4 harg4 arg5 harg5 arg6 harg6 arg7 harg7 arg8 harg8 arg9 harg9) K } := by
  refine ⟨?_, ?_, fun E K => ?run⟩
  case run =>
    simp only [cc0_hgrn_eq_skeleton]; unfold cc0_hgrn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    rw [trips_indep (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.Hgrn.RunB.lean ====
/- The run of the recurrence kernel's body at the later blocks of a sequence, where the state is carried. -/
module

public import proofs.«01_k».proof.Proof.Hgrn.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken: points 1, 2, … 63: 48 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) :
    Σ' (L6 : List (View.Piece (Elt F) S512x512 .f32)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_hgrn i arg2 harg2 arg3 harg3 arg4 harg4 arg5 harg5 arg6 harg6 arg7 harg7 arg8 harg8 arg9 harg9) K } := by
  refine ⟨?_, ?_, fun E K => ?run⟩
  case run =>
    simp only [cc0_hgrn_eq_skeleton]; unfold cc0_hgrn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0)
    sl_step
    rw [trips_indep (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.Hgrn.Frame.lean ====
/- The recurrence kernel's frame: what its output block and its carried state hold after every grid point, and its run. -/
module

public import proofs.«01_k».proof.Proof.Hgrn.RunB
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (32 stores of `S64x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x512 .f32) (x1 : Vec F S512x512 .f32) (x2 : Vec F S512x512 .f32) (x3 : Vec F S512x512 .f32) (x4 : Vec F S2x512 .f32) (x5 : Vec F S1x128 .f32) (y : S512x512.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S64x128.size (by sl_kernel_rfl) y

/-- What case A leaves in output 6's staging buffer: its pieces read back over junk. -/
def out0_A_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x512 .f32) (x1 : Vec F S512x512 .f32) (x2 : Vec F S512x512 .f32) (x3 : Vec F S512x512 .f32) (x4 : Vec F S2x512 .f32) (x5 : Vec F S1x128 .f32) : Vec F S512x512 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- Case A's pieces for scratch `arg9`, which the kernel carries between points, cover it: one of them a store of the WHOLE buffer (Lib/Ring.lean `sl_whole_mem`). -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x512 .f32) (x1 : Vec F S512x512 .f32) (x2 : Vec F S512x512 .f32) (x3 : Vec F S512x512 .f32) (x4 : Vec F S2x512 .f32) (x5 : Vec F S1x128 .f32) (y : S4x128x128.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_wholeMem (kernelRun0_A c i arg2 harg2 arg3 harg3 arg4 harg4 arg5 harg5 arg6 harg6 arg7 harg7 arg8 harg8 arg9 harg9 hc0 x0 x1 x2 x3 x4 x5).2.1 (by sl_whole_mem) y

/-- What case A leaves in scratch `arg9`: its pieces read back over junk. -/
def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x512 .f32) (x1 : Vec F S512x512 .f32) (x2 : Vec F S512x512 .f32) (x3 : Vec F S512x512 .f32) (x4 : Vec F S2x512 .f32) (x5 : Vec F S1x128 .f32) : Vec F S4x128x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4 x5).2.1)

/-- Case B's pieces for output 6 tile its block (32 stores of `S64x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) (y : S512x512.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S64x128.size (by sl_kernel_rfl) y

/-- What case B leaves in output 6's staging buffer: its pieces read back over junk. -/
def out0_B_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) : Vec F S512x512 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-- Case B's pieces for scratch `arg9`, which the kernel carries between points, cover it: 32 pieces of `S1x128x128` tiling it (Lib/Ring.lean `Piece.tiledL`). -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) (y : S4x128x128.Idx) :
    ∃ pc ∈ (kernelRun0_B c i arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).2.1 S1x128x128.size (by sl_kernel_rfl) y

/-- What case B leaves in scratch `arg9`: its pieces read back over junk. -/
def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) : Vec F S4x128x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 x2 x3 x4 x5 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .f32 × Vec F S4x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (X0_3 m c ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (X0_3 m c ⟨0, hn⟩) (iblk m c 4 ⟨0, hn⟩) (iblk m c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (X0_0 m c t) (X0_1 m c t) (X0_2 m c t) (X0_3 m c t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (X0_0 m c t) (X0_1 m c t) (X0_2 m c t) (X0_3 m c t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (X0_0 m c t) (X0_1 m c t) (X0_2 m c t) (X0_3 m c t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (X0_0 m c t) (X0_1 m c t) (X0_2 m c t) (X0_3 m c t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases hz : t.val = 0
    · rw [PhiS_castSucc m c t, PhiS_zero m c _ _ hz, PhiA0_eq]
      rw [outsAt0_A m c t h0]
      unfold out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (X0_0 m c t) (X0_1 m c t) (X0_2 m c t) (X0_3 m c t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      rw [outsAt0_A m c t h0]
      unfold out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (X0_0 m c t) (X0_1 m c t) (X0_2 m c t) (X0_3 m c t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_6 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (X0_0 m c t) (X0_1 m c t) (X0_2 m c t) (X0_3 m c t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Hand.facts, fun m ρ _ => Cert.KernelIdeal.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Hgrn.FrameBits.lean ====
/- The kernel's frame, from the run of its ideal program, which has the same text and holds over any float values. -/
module

public import proofs.«01_k».proof.Defs
public import proofs.«01_k».proof.Proof.Gen.Kernel
public import proofs.«01_k».proof.Proof.Hgrn.Frame

@[expose] public section

noncomputable section

namespace Cert.Hgrn

open Idealize.ShloMosaic Idealize.SL.Sem

/-- The two programs' kernel bodies are the same. -/
theorem body_table : Kernel.defs₀ (F := Bits) = KernelIdeal.defs₀ (F := Bits) := by
  unfold Kernel.defs₀ KernelIdeal.defs₀
  congr 1
  funext l a
  rcases l with ⟨l, h⟩
  cases l with
  | zero => with_unfolding_all rfl
  | succ n => exact absurd h (Nat.not_lt.2 (Nat.le_add_left _ _))

/-- The two programs' tables are the same. -/
theorem table : Kernel.defs (F := Bits) = KernelIdeal.defs (F := Bits) :=
  congrArg (Pipeline.defs KernelIdeal.pcfgs) body_table

/-- The kernel, read bit for bit, leaves its arguments as they were and its counters at zero. -/
theorem frame_kernel : Cert.quiescent_Kernel (hKernel := Kernel.Gen.facts) := by
  intro m ρ _
  have h := KernelIdeal.Hand.frame (F := Bits) m ρ
  rw [← table] at h
  exact h

end Cert.Hgrn

end
-- ==== Proof.Hgrn.Spec.lean ====
/- The HGRN2 recurrence over the extended reals, one chunk of 64 rows at a time: the gates, the log decay summed inside a
   chunk, the state carried from chunk to chunk and the output rows. Nothing here mentions either program; the kernel's
   module and the reference's module each show their program computes `out`. -/
module

public import Idealize.ShloMosaic.Lib.Pointwise

@[expose] public section

noncomputable section

namespace Cert.Hgrn

open Idealize.ShloMosaic

/-- Channel `d` of head `h` among the 512 channels. -/
def ch (h : Fin 4) (d : Fin 128) : Fin 512 := ⟨128 * h.val + d.val, by omega⟩

/-- The largest of a channel's two lower-bound logits, folded from the constant both programs start at. -/
def top (l : Fin 2 → Fin 512 → EReal) (c : Fin 512) : EReal :=
  Finset.fold max (Ideal.ofBits FTy.f32 4286578688#32) (fun x => l x c) Finset.univ

/-- The forget gate's lower bound: the first of the two softmax weights of a channel. -/
def lower (l : Fin 2 → Fin 512 → EReal) (c : Fin 512) : EReal :=
  Ideal.div (Ideal.exp (l 0 c - top l c)) (∑ x, Ideal.exp (l x c - top l c))

/-- The forget gate: the logistic of the pre-activation, squeezed above the lower bound. -/
def gate (b x : EReal) : EReal := b + (1 - b) * Ideal.logistic x

section Chunk

variable (b : Fin 512 → EReal) (q f v : Fin 64 → Fin 512 → EReal)

/-- The log of the forget gate. -/
def lf (i : Fin 64) (c : Fin 512) : EReal := Ideal.log (gate (b c) (f i c))

/-- The log decay from the chunk's start through row `i`. -/
def G (i : Fin 64) (c : Fin 512) : EReal := ∑ s : Fin 64, if s ≤ i then lf b f s c else 0

/-- The query row, decayed from the chunk's start. -/
def qd (i : Fin 64) (c : Fin 512) : EReal := Ideal.logistic (q i c) * Ideal.exp (G b f i c)

/-- The key row, decayed back to the chunk's start. -/
def ki (i : Fin 64) (c : Fin 512) : EReal := (1 - gate (b c) (f i c)) * Ideal.exp (-(G b f i c))

/-- The key row, decayed on to the chunk's end. -/
def ks (i : Fin 64) (c : Fin 512) : EReal := (1 - gate (b c) (f i c)) * Ideal.exp (G b f 63 c - G b f i c)

/-- The state after a chunk, of the state before it. -/
def next (S : Fin 4 → Fin 128 → Fin 128 → EReal) : Fin 4 → Fin 128 → Fin 128 → EReal := fun h d e =>
  Ideal.exp (G b f 63 (ch h d)) * S h d e + ∑ s : Fin 64, ks b f s (ch h d) * v s (ch h e)

/-- A chunk's attention to itself: the masked products of queries and keys against the values. -/
def intra (h : Fin 4) (i : Fin 64) (e : Fin 128) : EReal :=
  ∑ j : Fin 64, (if j ≤ i then ∑ d : Fin 128, qd b q f i (ch h d) * ki b f j (ch h d) else 0) * v j (ch h e)

/-- An output row of a chunk before its norm: the chunk's own attention and the state's reading. -/
def row (S : Fin 4 → Fin 128 → Fin 128 → EReal) (h : Fin 4) (i : Fin 64) (e : Fin 128) : EReal :=
  intra b q f v h i e + ∑ d : Fin 128, qd b q f i (ch h d) * S h d e

end Chunk

/-- A head's row normed by its root mean square, gained, and gated by the output gate's SiLU. -/
def fin (o g : Fin 128 → EReal) (og : EReal) (e : Fin 128) : EReal :=
  o e * Ideal.rsqrt (Ideal.div (∑ x, o x * o x) (Ideal.ofBits FTy.f32 1124073472#32) + Ideal.ofBits FTy.f32 897988541#32)
    * g e * (og * Ideal.logistic og)

/-- The state before chunk `n` of a batch, whose gate and value rows are `f` and `v`. -/
def state (b : Fin 512 → EReal) (f v : ℕ → Fin 64 → Fin 512 → EReal) : ℕ → Fin 4 → Fin 128 → Fin 128 → EReal
  | 0 => fun _ _ _ => 0
  | n + 1 => next b (f n) (v n) (state b f v n)

/-- Column group `k` (queries, gates, values, output gates) of chunk `n` of batch `bt` of the projections. -/
def chunk (p : Fin 32768 → Fin 4352 → EReal) (k : Fin 4) (bt n : ℕ) (i : Fin 64) (c : Fin 512) : EReal :=
  p ⟨(2048 * bt + 64 * n + i.val) % 32768, Nat.mod_lt _ (by decide)⟩ ⟨512 * k.val + c.val, by omega⟩

/-- A row of the recurrence's output before its norm. -/
def pre (p : Fin 32768 → Fin 4352 → EReal) (l : Fin 2 → Fin 512 → EReal) (bt n : ℕ) (h : Fin 4) (i : Fin 64) :
    Fin 128 → EReal :=
  row (lower l) (chunk p 0 bt n) (chunk p 1 bt n) (chunk p 2 bt n)
    (state (lower l) (chunk p 1 bt) (chunk p 2 bt) n) h i

/-- The layer part's result at row `64 n + i` of batch `bt`, channel `e` of head `h`. -/
def out (p : Fin 32768 → Fin 4352 → EReal) (g : Fin 128 → EReal) (l : Fin 2 → Fin 512 → EReal) (bt n : ℕ) (h : Fin 4)
    (i : Fin 64) (e : Fin 128) : EReal :=
  fin (pre p l bt n h i) g (chunk p 3 bt n i (ch h e)) e

/-! ## The log decay is never `⊤` -/

theorem exp_nonneg (x : EReal) : 0 ≤ Ideal.exp x := by
  induction x using EReal.rec with
  | bot => exact le_refl _
  | top => exact le_top
  | coe r => rw [Ideal.exp_coe]; exact_mod_cast (Real.exp_pos r).le

/-- A nonnegative part of a whole, divided by the whole, is not `⊤`. -/
theorem share_ne_top (a b : EReal) (ha : 0 ≤ a) (hb : 0 ≤ b) : Ideal.div a (a + b) ≠ ⊤ := by
  unfold Ideal.div
  split_ifs with h0 h1
  · exfalso
    have : a ≤ a + b := le_add_of_nonneg_right hb
    rw [h0] at this
    exact absurd h1 (not_lt.mpr this)
  · exact bot_ne_top
  · induction a using EReal.rec with
    | bot => exact absurd ha (by simp)
    | top =>
      have hbb : b ≠ ⊥ := fun h => by rw [h] at hb; exact absurd hb (by simp)
      rw [EReal.top_add_of_ne_bot hbb, EReal.inv_top, mul_zero]
      exact EReal.zero_ne_top
    | coe x =>
      induction b using EReal.rec with
      | bot => exact absurd hb (by simp)
      | top => rw [EReal.coe_add_top, EReal.inv_top, mul_zero]; exact EReal.zero_ne_top
      | coe y => rw [← EReal.coe_add, ← EReal.coe_inv, ← EReal.coe_mul]; exact EReal.coe_ne_top _

theorem lower_ne_top (l : Fin 2 → Fin 512 → EReal) (c : Fin 512) : lower l c ≠ ⊤ := by
  unfold lower
  rw [Fin.sum_univ_two]
  exact share_ne_top _ _ (exp_nonneg _) (exp_nonneg _)

theorem gate_ne_top (b x : EReal) (hb : b ≠ ⊤) : gate b x ≠ ⊤ := by
  unfold gate
  induction b using EReal.rec with
  | bot => rw [EReal.bot_add]; exact bot_ne_top
  | top => exact absurd rfl hb
  | coe b =>
    obtain ⟨s, hs⟩ : ∃ s : ℝ, Ideal.logistic x = (s : EReal) := by
      induction x using EReal.rec with
      | bot => exact ⟨0, by simp⟩
      | top => exact ⟨1, by simp⟩
      | coe r => exact ⟨_, Ideal.logistic_coe r⟩
    rw [hs, ← EReal.coe_one, ← EReal.coe_sub, ← EReal.coe_mul, ← EReal.coe_add]
    exact EReal.coe_ne_top _

theorem log_ne_top (x : EReal) (hx : x ≠ ⊤) : Ideal.log x ≠ ⊤ := by
  induction x using EReal.rec with
  | bot => exact bot_ne_top
  | top => exact absurd rfl hx
  | coe r =>
    rw [Ideal.log_coe]
    split_ifs
    · exact bot_ne_top
    · exact EReal.coe_ne_top _

theorem lf_ne_top (b : Fin 512 → EReal) (f : Fin 64 → Fin 512 → EReal) (i : Fin 64) (c : Fin 512) (hb : b c ≠ ⊤) :
    lf b f i c ≠ ⊤ := log_ne_top _ (gate_ne_top _ _ hb)

/-- A sum of terms none of which is `⊤`, plus the sum of their differences with themselves, is the sum. -/
theorem sum_add_self_sub (s : Finset (Fin 64)) (a : Fin 64 → EReal) (ha : ∀ i, a i ≠ ⊤) :
    (∑ i ∈ s, a i) + ∑ i ∈ s, (a i - a i) = ∑ i ∈ s, a i := by
  rw [← Finset.sum_add_distrib]
  refine Finset.sum_congr rfl fun i _ => ?_
  have := ha i
  induction h : a i using EReal.rec with
  | bot => simp
  | top => exact absurd h this
  | coe r => rw [← EReal.coe_sub, sub_self, EReal.coe_zero, add_zero]

end Cert.Hgrn

end
-- ==== Proof.Hgrn.Pay.lean ====
/- What the kernel's operations compute at an index, over the extended reals: the parts of one trip of its chunk loop are
   the recurrence's gates, decays, keys and queries, and each head's state update and output row. -/
module

public import proofs.«01_k».proof.Proof.Gen.KernelIdeal.Skeleton
public import proofs.«01_k».proof.Proof.Hgrn.Spec

@[expose] public section

set_option maxRecDepth 16384

noncomputable section

namespace Cert.Hgrn

open Idealize.ShloMosaic Cert.KernelIdeal Cert.KernelIdeal.Gen

/-- A block of 64 rows as a function of row and channel. -/
abbrev mat (x : S64x512.Idx → EReal) : Fin 64 → Fin 512 → EReal := fun i c => x (ix2 i c)

/-- A row of 512 channels as a function of the channel. -/
abbrev vec (x : S1x512.Idx → EReal) : Fin 512 → EReal := fun c => x (ix2 0 c)

/-- The mask: row against column, both below 64. -/
theorem sge_iff (i j : Fin 64) :
    IntOp.cmpi CmpIPredicate.sge (BitVec.ofNat 32 i.val) (BitVec.ofNat 32 j.val) = if j ≤ i then 1#1 else 0#1 := by
  revert i j; decide +kernel

theorem pay4_at (i j : Fin 64) : k0_pay4 (ix2 i j) = if j ≤ i then 1#1 else 0#1 := by
  rw [← sge_iff]
  pointwise [k0_pay4]

/-- A choice by the mask is a choice by the order of the rows. -/
theorem select_mask (i j : Fin 64) (a b : EReal) :
    Scalar.select (if j ≤ i then 1#1 else 0#1) a b = if j ≤ i then a else b := by
  by_cases h : j ≤ i
  · rw [if_pos h, if_pos h]; rfl
  · rw [if_neg h, if_neg h]; rfl

theorem pay5_at (i j : Fin 64) : k0_pay5 (F := Ideal) (ix2 i j) = if j ≤ i then (1 : EReal) else 0 := by
  pointwise [k0_pay5]
  rw [pay4_at]
  by_cases h : j ≤ i
  · rw [if_pos h, if_pos h]
    show ((((BitVec.setWidth 32 (1#1)).toInt : ℝ)) : EReal) = 1
    simp
  · rw [if_neg h, if_neg h]
    show ((((BitVec.setWidth 32 (0#1)).toInt : ℝ)) : EReal) = 0
    simp

theorem pay2_at (x : S2x512.Idx → EReal) (c : Fin 512) :
    k0_pay2 (F := Ideal) x (ix2 0 c) = lower (fun a c => x (ix2 a c)) c := by
  pointwise [k0_pay2]
  rfl

variable (b : FVec Ideal S1x512 .f32) (f q : Vec Ideal S64x512 .f32)

theorem pay8_at (i : Fin 64) (c : Fin 512) : k0_pay8 (F := Ideal) b f (ix2 i c) = gate (vec b c) (mat f i c) := by
  pointwise [k0_pay8]
  rfl

theorem pay9_at (i : Fin 64) (c : Fin 512) : k0_pay9 (F := Ideal) b f (ix2 i c) = 1 - gate (vec b c) (mat f i c) := by
  pointwise [k0_pay9]
  rw [pay8_at]

theorem pay10_at (hb : ∀ c, vec b c ≠ ⊤) (i : Fin 64) (c : Fin 512) :
    k0_pay10 (F := Ideal) b k0_pay5 f (ix2 i c) = G (vec b) (mat f) i c := by
  pointwise [k0_pay10]
  simp only [pay8_at, pay5_at, ite_mul, one_mul, zero_mul]
  unfold G
  rw [← Finset.sum_filter, ← Finset.sum_filter, ← Finset.sum_filter]
  exact sum_add_self_sub _ (fun s => lf (vec b) (mat f) s c) (fun s => lf_ne_top _ _ _ _ (hb c))

theorem pay11_at (hb : ∀ c, vec b c ≠ ⊤) (c : Fin 512) :
    k0_pay11 (F := Ideal) b k0_pay5 f (ix2 0 c) = G (vec b) (mat f) 63 c := by
  pointwise [k0_pay11]
  rw [pay10_at b f hb]

theorem pay12_at (hb : ∀ c, vec b c ≠ ⊤) (i : Fin 64) (c : Fin 512) :
    k0_pay12 (F := Ideal) b k0_pay5 f q (ix2 i c) = qd (vec b) (mat q) (mat f) i c := by
  pointwise [k0_pay12]
  rw [pay10_at b f hb]
  rfl

theorem pay13_at (hb : ∀ c, vec b c ≠ ⊤) (i : Fin 64) (c : Fin 512) :
    k0_pay13 (F := Ideal) b k0_pay5 f (ix2 i c) = ki (vec b) (mat f) i c := by
  pointwise [k0_pay13]
  rw [pay10_at b f hb, pay9_at, zero_sub]
  rfl

theorem pay14_at (hb : ∀ c, vec b c ≠ ⊤) (i : Fin 64) (c : Fin 512) :
    k0_pay14 (F := Ideal) b k0_pay5 f (ix2 i c) = ks (vec b) (mat f) i c := by
  pointwise [k0_pay14]
  rw [pay10_at b f hb, pay9_at, pay11_at b f hb]
  rfl

theorem pay15_at (hb : ∀ c, vec b c ≠ ⊤) (c : Fin 512) :
    k0_pay15 (F := Ideal) b k0_pay5 f (ix2 0 c) = Ideal.exp (G (vec b) (mat f) 63 c) := by
  pointwise [k0_pay15]
  rw [pay11_at b f hb]

theorem pay16_at (v : Vec Ideal S64x512 .f32) (i : Fin 64) (c : Fin 512) :
    k0_pay16 (F := Ideal) v (ix2 i c) = mat v i c := by
  pointwise [k0_pay16]

/-! ## The state and the output of a head -/

/-- A head's output row of the packed queries, keys and values and the head's stored state (value channel first). -/
def headRow (h : Fin 4) (q k v : FVec Ideal S64x512 .bf16) (x : FVec Ideal S128x128 .f32) (i : Fin 64) (e : Fin 128) : EReal :=
  (∑ j : Fin 64, (if j ≤ i then ∑ d : Fin 128, q (ix2 i (ch h d)) * k (ix2 j (ch h d)) else 0) * v (ix2 j (ch h e)))
    + ∑ d : Fin 128, q (ix2 i (ch h d)) * x (ix2 e d)

theorem pay18_at (k : FVec Ideal S64x512 .bf16) (w : FVec Ideal S1x512 .f32) (v : FVec Ideal S64x512 .bf16)
    (x : FVec Ideal S128x128 .f32) (e d : Fin 128) :
    k0_pay18 (F := Ideal) k w v x (ix3 0 e d)
      = w (ix2 0 (ch 0 d)) * x (ix2 e d) + ∑ s : Fin 64, v (ix2 s (ch 0 e)) * k (ix2 s (ch 0 d)) := by
  have hc : ∀ d : Fin 128, ch 0 d = ⟨0 + d.val, by omega⟩ := fun d => Fin.ext (by simp [ch])
  simp only [hc]
  pointwise [k0_pay18]

theorem pay22_at (k : FVec Ideal S64x512 .bf16) (w : FVec Ideal S1x512 .f32) (v : FVec Ideal S64x512 .bf16)
    (x : FVec Ideal S128x128 .f32) (e d : Fin 128) :
    k0_pay22 (F := Ideal) k w v x (ix3 0 e d)
      = w (ix2 0 (ch 1 d)) * x (ix2 e d) + ∑ s : Fin 64, v (ix2 s (ch 1 e)) * k (ix2 s (ch 1 d)) := by
  have hc : ∀ d : Fin 128, ch 1 d = ⟨128 + d.val, by omega⟩ := fun d => Fin.ext (by simp [ch])
  simp only [hc]
  pointwise [k0_pay22]

theorem pay27_at (k : FVec Ideal S64x512 .bf16) (w : FVec Ideal S1x512 .f32) (v : FVec Ideal S64x512 .bf16)
    (x : FVec Ideal S128x128 .f32) (e d : Fin 128) :
    k0_pay27 (F := Ideal) k w v x (ix3 0 e d)
      = w (ix2 0 (ch 2 d)) * x (ix2 e d) + ∑ s : Fin 64, v (ix2 s (ch 2 e)) * k (ix2 s (ch 2 d)) := by
  have hc : ∀ d : Fin 128, ch 2 d = ⟨256 + d.val, by omega⟩ := fun d => Fin.ext (by simp [ch])
  simp only [hc]
  pointwise [k0_pay27]

theorem pay6_at (k : FVec Ideal S64x512 .bf16) (w : FVec Ideal S1x512 .f32) (v : FVec Ideal S64x512 .bf16)
    (x : FVec Ideal S128x128 .f32) (e d : Fin 128) :
    k0_pay6 (F := Ideal) k w v x (ix3 0 e d)
      = w (ix2 0 (ch 3 d)) * x (ix2 e d) + ∑ s : Fin 64, v (ix2 s (ch 3 e)) * k (ix2 s (ch 3 d)) := by
  have hc : ∀ d : Fin 128, ch 3 d = ⟨384 + d.val, by omega⟩ := fun d => Fin.ext (by simp [ch])
  simp only [hc]
  pointwise [k0_pay6]

theorem pay19_at (g : Vec Ideal S1x128 .f32) (o : Vec Ideal S64x512 .f32) (q k v : FVec Ideal S64x512 .bf16)
    (x : FVec Ideal S128x128 .f32) (i : Fin 64) (e : Fin 128) :
    k0_pay19 (F := Ideal) (k0_pay3 g) k0_pay4 o q k v x (ix2 i e) = fin (headRow 0 q k v x i) (fun e => g (ix2 0 e)) (o (ix2 i (ch 0 e))) e := by
  have hc : ∀ d : Fin 128, ch 0 d = ⟨0 + d.val, by omega⟩ := fun d => Fin.ext (by simp [ch])
  unfold fin headRow
  simp only [hc]
  pointwise [k0_pay19,k0_pay3]
  simp only [pay4_at, select_mask, ite_mul, zero_mul]

theorem pay23_at (g : Vec Ideal S1x128 .f32) (o : Vec Ideal S64x512 .f32) (q k v : FVec Ideal S64x512 .bf16)
    (x : FVec Ideal S128x128 .f32) (i : Fin 64) (e : Fin 128) :
    k0_pay23 (F := Ideal) (k0_pay3 g) k0_pay4 o q k v x (k0_pay21 q) (ix2 i e) = fin (headRow 1 q k v x i) (fun e => g (ix2 0 e)) (o (ix2 i (ch 1 e))) e := by
  have hc : ∀ d : Fin 128, ch 1 d = ⟨128 + d.val, by omega⟩ := fun d => Fin.ext (by simp [ch])
  unfold fin headRow
  simp only [hc]
  pointwise [k0_pay23,k0_pay3,k0_pay21]
  simp only [pay4_at, select_mask, ite_mul, zero_mul]

theorem pay28_at (g : Vec Ideal S1x128 .f32) (o : Vec Ideal S64x512 .f32) (q k v : FVec Ideal S64x512 .bf16)
    (x : FVec Ideal S128x128 .f32) (i : Fin 64) (e : Fin 128) :
    k0_pay28 (F := Ideal) (k0_pay3 g) k0_pay4 o q v x (k0_pay25 q) (k0_pay26 k) (ix2 i e) = fin (headRow 2 q k v x i) (fun e => g (ix2 0 e)) (o (ix2 i (ch 2 e))) e := by
  have hc : ∀ d : Fin 128, ch 2 d = ⟨256 + d.val, by omega⟩ := fun d => Fin.ext (by simp [ch])
  unfold fin headRow
  simp only [hc]
  pointwise [k0_pay28,k0_pay3,k0_pay25,k0_pay26]
  simp only [pay4_at, select_mask, ite_mul, zero_mul]

theorem pay7_at (g : Vec Ideal S1x128 .f32) (o : Vec Ideal S64x512 .f32) (q k v : FVec Ideal S64x512 .bf16)
    (x : FVec Ideal S128x128 .f32) (i : Fin 64) (e : Fin 128) :
    k0_pay7 (F := Ideal) g o q v x (k0_pay30 q) (k0_pay31 k) (constant (F := Ideal) S64x64 .f32 0x00000000#32) (ix2 i e) = fin (headRow 3 q k v x i) (fun e => g (ix2 0 e)) (o (ix2 i (ch 3 e))) e := by
  have hc : ∀ d : Fin 128, ch 3 d = ⟨384 + d.val, by omega⟩ := fun d => Fin.ext (by simp [ch])
  unfold fin headRow
  simp only [hc]
  pointwise [k0_pay7,k0_pay3,k0_pay30,k0_pay31]
  simp only [pay4_at, select_mask, ite_mul, zero_mul]

theorem pay17_at (x : Vec Ideal S1x128x128 .f32) (e d : Fin 128) : k0_pay17 (F := Ideal) x (ix2 e d) = x (ix3 0 e d) := by
  pointwise [k0_pay17]

theorem pay20_at (x : Vec Ideal S1x128x128 .f32) (e d : Fin 128) : k0_pay20 (F := Ideal) x (ix2 e d) = x (ix3 0 e d) := by
  pointwise [k0_pay20]

theorem pay24_at (x : Vec Ideal S1x128x128 .f32) (e d : Fin 128) : k0_pay24 (F := Ideal) x (ix2 e d) = x (ix3 0 e d) := by
  pointwise [k0_pay24]

theorem pay29_at (x : Vec Ideal S1x128x128 .f32) (e d : Fin 128) : k0_pay29 (F := Ideal) x (ix2 e d) = x (ix3 0 e d) := by
  pointwise [k0_pay29]

end Cert.Hgrn

end
-- ==== Proof.Hgrn.Trip.lean ====
/- One trip of the kernel's chunk loop, read at an index: what it leaves in the carried state and in the output block. -/
module

public import proofs.«01_k».proof.Proof.Gen.KernelIdeal.Frame.Runs
public import proofs.«01_k».proof.Proof.Hgrn.Pay
public import Idealize.ShloMosaic.Lib.WritesUnit

@[expose] public section

set_option maxRecDepth 16384

noncomputable section

namespace Cert.Hgrn

open Cert.KernelIdeal Cert.KernelIdeal.Gen
open Idealize.ShloMosaic Idealize.ShloMosaic.TcCoe Idealize.ShloMosaic.Tactic
open Idealize.SL Idealize.SL.Sem

theorem off1 : ∀ k : Fin k0_t1_loop.trips, k0_off1 k = ![64 * k.val, 0] := by decide +kernel
theorem off2 : ∀ k : Fin k0_t1_loop.trips, k0_off2 k = ![64 * k.val, 0] := by decide +kernel
theorem off3 : ∀ k : Fin k0_t1_loop.trips, k0_off3 k = ![64 * k.val, 128] := by decide +kernel
theorem off4 : ∀ k : Fin k0_t1_loop.trips, k0_off4 k = ![64 * k.val, 256] := by decide +kernel
theorem off5 : ∀ k : Fin k0_t1_loop.trips, k0_off5 k = ![64 * k.val, 384] := by decide +kernel
theorem trips_eq : k0_t1_loop.trips = 8 := by decide +kernel

/-- Row `i` of chunk `k` of a block of 512 rows. -/
def rowAt (k : Fin k0_t1_loop.trips) (i : Fin 64) : Fin 512 := ⟨64 * k.val + i.val, by have := k.isLt; have := trips_eq; omega⟩

/-- Chunk `k` of a block held in a buffer. -/
def rows (a : Memref sig .tc .vmem S512x512 .f32) (X : BufTy.Contents (Elt Ideal) a.view.ty) (k : Fin k0_t1_loop.trips) :
    Fin 64 → Fin 512 → EReal := fun i c => a.view.read (Elt Ideal) X (ix2 (rowAt k i) c)

theorem load_rows (a : Memref sig .tc .vmem S512x512 .f32) (X : BufTy.Contents (Elt Ideal) a.view.ty)
    (k : Fin k0_t1_loop.trips) (h) :
    mat (a.view.readAt (Elt Ideal) (Rect.unit (s := S512x512) (k0_off1 k) ![64, 512] h).toLoadRect X) = rows a X k := by
  funext i c
  show a.view.read (Elt Ideal) X _ = a.view.read (Elt Ideal) X _
  congr 1
  funext x
  apply Fin.ext
  match x with
  | ⟨0, _⟩ => show k0_off1 k 0 + 1 * i.val = 64 * k.val + i.val; rw [off1, Nat.one_mul]; rfl
  | ⟨1, _⟩ => show k0_off1 k 1 + 1 * c.val = c.val; rw [off1, Nat.one_mul]; exact Nat.zero_add _

/-- The carried state held in a buffer, the key channel first (the buffer holds the value channel first). -/
def stateOf (a : Memref sig .tc .vmem S4x128x128 .f32) (g : BufTy.Contents (Elt Ideal) a.view.ty) :
    Fin 4 → Fin 128 → Fin 128 → EReal := fun h d e => a.view.read (Elt Ideal) g (ix3 h e d)

theorem load_state (a : Memref sig .tc .vmem S4x128x128 .f32) (g : BufTy.Contents (Elt Ideal) a.view.ty) (h : Fin 4)
    (off : Fin 3 → ℕ) (inb) (hoff : off = ![h.val, 0, 0]) (e d : Fin 128) :
    a.view.readAt (Elt Ideal) (Rect.unit (s := S4x128x128) off S1x128x128.size inb).toLoadRect g (ix3 0 e d) = stateOf a g h d e := by
  subst hoff
  show a.view.read (Elt Ideal) g _ = a.view.read (Elt Ideal) g _
  congr 1
  funext x
  apply Fin.ext
  match x with
  | ⟨0, _⟩ => show h.val + 1 * 0 = h.val; omega
  | ⟨1, _⟩ => show 0 + 1 * e.val = e.val; omega
  | ⟨2, _⟩ => show 0 + 1 * d.val = d.val; omega

theorem bound_ne_top (v3 : Vec Ideal S2x512 .f32) (c : Fin 512) : vec (k0_pay2 (F := Ideal) v3) c ≠ ⊤ := by
  rw [show vec (k0_pay2 (F := Ideal) v3) c = _ from pay2_at v3 c]
  exact lower_ne_top _ _

theorem vec_bound (v3 : Vec Ideal S2x512 .f32) : vec (k0_pay2 (F := Ideal) v3) = lower (fun a c => v3 (ix2 a c)) :=
  funext fun c => pay2_at v3 c

/-- What a trip leaves in head 0's carried state. -/
theorem trip_state_0 (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (d e : Fin 128) :
    arg9.view.read (Elt Ideal) (arg9.view.writes (Elt Ideal) g ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).2.1 f g)) (ix3 0 e d)
      = next (lower (fun a c => v3 (ix2 a c))) (rows arg3 X_arg3 k) (rows arg4 X_arg4 k) (stateOf arg9 g) 0 d e := by
  have hb := bound_ne_top v3
  unfold trip_k0_t1
  dsimp only
  rw [View.read_writes_cons_unit_of_not_mem (off := ![3, 0, 0]) (off' := ![3, 0, 0]) arg9.view g _ _ _ _ rfl 0 (Or.inl (by show 0 < 3; omega))]
  rw [View.read_writes_cons_unit_of_not_mem (off := ![2, 0, 0]) (off' := ![2, 0, 0]) arg9.view g _ _ _ _ rfl 0 (Or.inl (by show 0 < 2; omega))]
  rw [View.read_writes_cons_unit_of_not_mem (off := ![1, 0, 0]) (off' := ![1, 0, 0]) arg9.view g _ _ _ _ rfl 0 (Or.inl (by show 0 < 1; omega))]
  refine (View.read_writes_cons_unit_of_mem arg9.view g _ _ _ _ (off' := ![0, 0, 0]) (ix3 0 e d) rfl (fun a => ?_)).trans ?_
  · match a with
    | ⟨0, _⟩ => rfl
    | ⟨1, _⟩ => exact (Nat.zero_add _).symm
    | ⟨2, _⟩ => exact (Nat.zero_add _).symm
  · rw [pay18_at]
    unfold trip_k0_t1.sl.r_6 trip_k0_t1.sl.r_3 trip_k0_t1.sl.r_4 trip_k0_t1.sl.r_5
    rw [pay17_at, load_state arg9 g 0 ![0, 0, 0] inb_S4x128x128_S1x128x128_0_0_0 rfl]
    simp only [pay15_at _ _ hb, pay14_at _ _ hb, pay16_at, load_rows, vec_bound]
    unfold next
    refine congrArg (_ + ·) (Finset.sum_congr rfl fun s _ => ?_)
    exact (congrArg (· * _) (congrFun (congrFun (load_rows arg4 X_arg4 k _) s) (ch 0 e))).trans (EReal.mul_comm _ _)

/-- What a trip leaves in head 1's carried state. -/
theorem trip_state_1 (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (d e : Fin 128) :
    arg9.view.read (Elt Ideal) (arg9.view.writes (Elt Ideal) g ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).2.1 f g)) (ix3 1 e d)
      = next (lower (fun a c => v3 (ix2 a c))) (rows arg3 X_arg3 k) (rows arg4 X_arg4 k) (stateOf arg9 g) 1 d e := by
  have hb := bound_ne_top v3
  unfold trip_k0_t1
  dsimp only
  rw [View.read_writes_cons_unit_of_not_mem (off := ![3, 0, 0]) (off' := ![3, 0, 0]) arg9.view g _ _ _ _ rfl 0 (Or.inl (by show 1 < 3; omega))]
  rw [View.read_writes_cons_unit_of_not_mem (off := ![2, 0, 0]) (off' := ![2, 0, 0]) arg9.view g _ _ _ _ rfl 0 (Or.inl (by show 1 < 2; omega))]
  refine (View.read_writes_cons_unit_of_mem arg9.view g _ _ _ _ (off' := ![1, 0, 0]) (ix3 0 e d) rfl (fun a => ?_)).trans ?_
  · match a with
    | ⟨0, _⟩ => rfl
    | ⟨1, _⟩ => exact (Nat.zero_add _).symm
    | ⟨2, _⟩ => exact (Nat.zero_add _).symm
  · rw [pay22_at]
    unfold trip_k0_t1.sl.r_7 trip_k0_t1.sl.r_3 trip_k0_t1.sl.r_4 trip_k0_t1.sl.r_5 trip_k0_t1.sl.v108
    rw [pay20_at, load_state arg9 g 1 ![1, 0, 0] inb_S4x128x128_S1x128x128_1_0_0 rfl]
    simp only [pay15_at _ _ hb, pay14_at _ _ hb, pay16_at, load_rows, vec_bound]
    unfold next
    refine congrArg (_ + ·) (Finset.sum_congr rfl fun s _ => ?_)
    exact (congrArg (· * _) (congrFun (congrFun (load_rows arg4 X_arg4 k _) s) (ch 1 e))).trans (EReal.mul_comm _ _)

/-- What a trip leaves in head 2's carried state. -/
theorem trip_state_2 (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (d e : Fin 128) :
    arg9.view.read (Elt Ideal) (arg9.view.writes (Elt Ideal) g ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).2.1 f g)) (ix3 2 e d)
      = next (lower (fun a c => v3 (ix2 a c))) (rows arg3 X_arg3 k) (rows arg4 X_arg4 k) (stateOf arg9 g) 2 d e := by
  have hb := bound_ne_top v3
  unfold trip_k0_t1
  dsimp only
  rw [View.read_writes_cons_unit_of_not_mem (off := ![3, 0, 0]) (off' := ![3, 0, 0]) arg9.view g _ _ _ _ rfl 0 (Or.inl (by show 2 < 3; omega))]
  refine (View.read_writes_cons_unit_of_mem arg9.view g _ _ _ _ (off' := ![2, 0, 0]) (ix3 0 e d) rfl (fun a => ?_)).trans ?_
  · match a with
    | ⟨0, _⟩ => rfl
    | ⟨1, _⟩ => exact (Nat.zero_add _).symm
    | ⟨2, _⟩ => exact (Nat.zero_add _).symm
  · rw [pay27_at]
    unfold trip_k0_t1.sl.r_9 trip_k0_t1.sl.r_3 trip_k0_t1.sl.r_4 trip_k0_t1.sl.r_5 trip_k0_t1.sl.v150
    rw [pay24_at, load_state arg9 g 2 ![2, 0, 0] inb_S4x128x128_S1x128x128_2_0_0 rfl]
    simp only [pay15_at _ _ hb, pay14_at _ _ hb, pay16_at, load_rows, vec_bound]
    unfold next
    refine congrArg (_ + ·) (Finset.sum_congr rfl fun s _ => ?_)
    exact (congrArg (· * _) (congrFun (congrFun (load_rows arg4 X_arg4 k _) s) (ch 2 e))).trans (EReal.mul_comm _ _)

/-- What a trip leaves in head 3's carried state. -/
theorem trip_state_3 (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (d e : Fin 128) :
    arg9.view.read (Elt Ideal) (arg9.view.writes (Elt Ideal) g ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).2.1 f g)) (ix3 3 e d)
      = next (lower (fun a c => v3 (ix2 a c))) (rows arg3 X_arg3 k) (rows arg4 X_arg4 k) (stateOf arg9 g) 3 d e := by
  have hb := bound_ne_top v3
  unfold trip_k0_t1
  dsimp only
  refine (View.read_writes_cons_unit_of_mem arg9.view g _ _ _ _ (off' := ![3, 0, 0]) (ix3 0 e d) rfl (fun a => ?_)).trans ?_
  · match a with
    | ⟨0, _⟩ => rfl
    | ⟨1, _⟩ => exact (Nat.zero_add _).symm
    | ⟨2, _⟩ => exact (Nat.zero_add _).symm
  · rw [pay6_at]
    unfold trip_k0_t1.sl.r_12 trip_k0_t1.sl.r_3 trip_k0_t1.sl.r_4 trip_k0_t1.sl.r_5 trip_k0_t1.sl.v192
    rw [pay29_at, load_state arg9 g 3 ![3, 0, 0] inb_S4x128x128_S1x128x128_3_0_0 rfl]
    simp only [pay15_at _ _ hb, pay14_at _ _ hb, pay16_at, load_rows, vec_bound]
    unfold next
    refine congrArg (_ + ·) (Finset.sum_congr rfl fun s _ => ?_)
    exact (congrArg (· * _) (congrFun (congrFun (load_rows arg4 X_arg4 k _) s) (ch 3 e))).trans (EReal.mul_comm _ _)

/-- What a trip leaves in the carried state. -/
theorem trip_state (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) :
    stateOf arg9 (arg9.view.writes (Elt Ideal) g ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).2.1 f g))
      = next (lower (fun a c => v3 (ix2 a c))) (rows arg3 X_arg3 k) (rows arg4 X_arg4 k) (stateOf arg9 g) := by
  funext h d e
  match h with
  | ⟨0, _⟩ => exact trip_state_0 𝒱 c bd i arg2 harg2 arg3 harg3 arg4 harg4 arg5 harg5 arg6 harg6 arg7 harg7 arg8 harg8 arg9 harg9 v3 v13 X_arg2 X_arg3 X_arg4 X_arg5 k f g d e
  | ⟨1, _⟩ => exact trip_state_1 𝒱 c bd i arg2 harg2 arg3 harg3 arg4 harg4 arg5 harg5 arg6 harg6 arg7 harg7 arg8 harg8 arg9 harg9 v3 v13 X_arg2 X_arg3 X_arg4 X_arg5 k f g d e
  | ⟨2, _⟩ => exact trip_state_2 𝒱 c bd i arg2 harg2 arg3 harg3 arg4 harg4 arg5 harg5 arg6 harg6 arg7 harg7 arg8 harg8 arg9 harg9 v3 v13 X_arg2 X_arg3 X_arg4 X_arg5 k f g d e
  | ⟨3, _⟩ => exact trip_state_3 𝒱 c bd i arg2 harg2 arg3 harg3 arg4 harg4 arg5 harg5 arg6 harg6 arg7 harg7 arg8 harg8 arg9 harg9 v3 v13 X_arg2 X_arg3 X_arg4 X_arg5 k f g d e

/-- A head's output row of the packed queries, keys and values is the recurrence's row. -/
theorem headRow_eq (h : Fin 4) (b : FVec Ideal S1x512 .f32) (hb : ∀ c, vec b c ≠ ⊤) (q f v : Vec Ideal S64x512 .f32)
    (x : FVec Ideal S128x128 .f32) (S : Fin 4 → Fin 128 → Fin 128 → EReal) (hx : ∀ e d, x (ix2 e d) = S h d e) (i : Fin 64) :
    headRow h (k0_pay12 (F := Ideal) b k0_pay5 f q) (k0_pay13 (F := Ideal) b k0_pay5 f) (k0_pay16 (F := Ideal) v) x i
      = row (vec b) (mat q) (mat f) (mat v) S h i := by
  funext e
  unfold headRow row intra
  simp only [pay12_at _ _ _ hb, pay13_at _ _ hb, pay16_at, hx]

/-- What a trip leaves in head 0's columns of its chunk of the output block. -/
theorem trip_out_0 (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (x : Fin 64) (e : Fin 128) :
    arg8.view.read (Elt Ideal) (arg8.view.writes (Elt Ideal) f ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).1 f g)) (ix2 (rowAt k x) (ch 0 e))
      = fin (row (lower (fun a c => v3 (ix2 a c))) (rows arg2 X_arg2 k) (rows arg3 X_arg3 k) (rows arg4 X_arg4 k) (stateOf arg9 g) 0 x) (fun e => v13 (ix2 0 e)) (rows arg5 X_arg5 k x (ch 0 e)) e := by
  have hb := bound_ne_top v3
  unfold trip_k0_t1
  dsimp only
  rw [View.read_writes_cons_unit_of_not_mem arg8.view f _ _ _ _ (off5 k) 1 (Or.inl (by show 128 * 0 + e.val < 384; omega))]
  rw [View.read_writes_cons_unit_of_not_mem arg8.view f _ _ _ _ (off4 k) 1 (Or.inl (by show 128 * 0 + e.val < 256; omega))]
  rw [View.read_writes_cons_unit_of_not_mem arg8.view f _ _ _ _ (off3 k) 1 (Or.inl (by show 128 * 0 + e.val < 128; omega))]
  refine (View.read_writes_cons_unit_of_mem arg8.view f _ _ _ _ (ix2 x e) (off2 k) (fun a => ?_)).trans ?_
  · match a with
    | ⟨0, _⟩ => rfl
    | ⟨1, _⟩ => rfl
  · refine (pay19_at _ _ _ (trip_k0_t1.sl.r_2 arg3 v3 X_arg3 k) _ _ x e).trans ?_
    unfold trip_k0_t1.sl.r_1 trip_k0_t1.sl.r_5 trip_k0_t1.sl.r trip_k0_t1.sl.r_2
    rw [headRow_eq 0 _ hb _ _ _ _ (stateOf arg9 g) (fun e d => ?_)]
    · rw [load_rows, load_rows, load_rows, vec_bound]
      exact congrArg (fun y => fin _ _ y e) (congrFun (congrFun (load_rows arg5 X_arg5 k _) x) (ch 0 e))
    · unfold trip_k0_t1.sl.r_6
      rw [pay17_at, load_state arg9 g 0 ![0, 0, 0] inb_S4x128x128_S1x128x128_0_0_0 rfl]

/-- What a trip leaves in head 1's columns of its chunk of the output block. -/
theorem trip_out_1 (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (x : Fin 64) (e : Fin 128) :
    arg8.view.read (Elt Ideal) (arg8.view.writes (Elt Ideal) f ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).1 f g)) (ix2 (rowAt k x) (ch 1 e))
      = fin (row (lower (fun a c => v3 (ix2 a c))) (rows arg2 X_arg2 k) (rows arg3 X_arg3 k) (rows arg4 X_arg4 k) (stateOf arg9 g) 1 x) (fun e => v13 (ix2 0 e)) (rows arg5 X_arg5 k x (ch 1 e)) e := by
  have hb := bound_ne_top v3
  unfold trip_k0_t1
  dsimp only
  rw [View.read_writes_cons_unit_of_not_mem arg8.view f _ _ _ _ (off5 k) 1 (Or.inl (by show 128 * 1 + e.val < 384; omega))]
  rw [View.read_writes_cons_unit_of_not_mem arg8.view f _ _ _ _ (off4 k) 1 (Or.inl (by show 128 * 1 + e.val < 256; omega))]
  refine (View.read_writes_cons_unit_of_mem arg8.view f _ _ _ _ (ix2 x e) (off3 k) (fun a => ?_)).trans ?_
  · match a with
    | ⟨0, _⟩ => rfl
    | ⟨1, _⟩ => rfl
  · refine (pay23_at _ _ _ (trip_k0_t1.sl.r_2 arg3 v3 X_arg3 k) _ _ x e).trans ?_
    unfold trip_k0_t1.sl.r_1 trip_k0_t1.sl.r_5 trip_k0_t1.sl.r trip_k0_t1.sl.r_2
    rw [headRow_eq 1 _ hb _ _ _ _ (stateOf arg9 g) (fun e d => ?_)]
    · rw [load_rows, load_rows, load_rows, vec_bound]
      exact congrArg (fun y => fin _ _ y e) (congrFun (congrFun (load_rows arg5 X_arg5 k _) x) (ch 1 e))
    · unfold trip_k0_t1.sl.r_7 trip_k0_t1.sl.v108
      rw [pay20_at, load_state arg9 g 1 ![1, 0, 0] inb_S4x128x128_S1x128x128_1_0_0 rfl]

/-- What a trip leaves in head 2's columns of its chunk of the output block. -/
theorem trip_out_2 (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (x : Fin 64) (e : Fin 128) :
    arg8.view.read (Elt Ideal) (arg8.view.writes (Elt Ideal) f ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).1 f g)) (ix2 (rowAt k x) (ch 2 e))
      = fin (row (lower (fun a c => v3 (ix2 a c))) (rows arg2 X_arg2 k) (rows arg3 X_arg3 k) (rows arg4 X_arg4 k) (stateOf arg9 g) 2 x) (fun e => v13 (ix2 0 e)) (rows arg5 X_arg5 k x (ch 2 e)) e := by
  have hb := bound_ne_top v3
  unfold trip_k0_t1
  dsimp only
  rw [View.read_writes_cons_unit_of_not_mem arg8.view f _ _ _ _ (off5 k) 1 (Or.inl (by show 128 * 2 + e.val < 384; omega))]
  refine (View.read_writes_cons_unit_of_mem arg8.view f _ _ _ _ (ix2 x e) (off4 k) (fun a => ?_)).trans ?_
  · match a with
    | ⟨0, _⟩ => rfl
    | ⟨1, _⟩ => rfl
  · refine (pay28_at _ _ _ (k0_pay13 (F := Ideal) (k0_pay2 v3) k0_pay5 (arg3.view.readAt (Elt Ideal) (Rect.unit (s := S512x512) (k0_off1 k) S64x512.size (k0_off1_inb k)).toLoadRect X_arg3)) _ _ x e).trans ?_
    unfold trip_k0_t1.sl.r_1 trip_k0_t1.sl.r_5 trip_k0_t1.sl.r
    rw [headRow_eq 2 _ hb _ _ _ _ (stateOf arg9 g) (fun e d => ?_)]
    · rw [load_rows, load_rows, load_rows, vec_bound]
      exact congrArg (fun y => fin _ _ y e) (congrFun (congrFun (load_rows arg5 X_arg5 k _) x) (ch 2 e))
    · unfold trip_k0_t1.sl.r_9 trip_k0_t1.sl.v150
      rw [pay24_at, load_state arg9 g 2 ![2, 0, 0] inb_S4x128x128_S1x128x128_2_0_0 rfl]

/-- What a trip leaves in head 3's columns of its chunk of the output block. -/
theorem trip_out_3 (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (x : Fin 64) (e : Fin 128) :
    arg8.view.read (Elt Ideal) (arg8.view.writes (Elt Ideal) f ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).1 f g)) (ix2 (rowAt k x) (ch 3 e))
      = fin (row (lower (fun a c => v3 (ix2 a c))) (rows arg2 X_arg2 k) (rows arg3 X_arg3 k) (rows arg4 X_arg4 k) (stateOf arg9 g) 3 x) (fun e => v13 (ix2 0 e)) (rows arg5 X_arg5 k x (ch 3 e)) e := by
  have hb := bound_ne_top v3
  unfold trip_k0_t1
  dsimp only
  refine (View.read_writes_cons_unit_of_mem arg8.view f _ _ _ _ (ix2 x e) (off5 k) (fun a => ?_)).trans ?_
  · match a with
    | ⟨0, _⟩ => rfl
    | ⟨1, _⟩ => rfl
  · refine (pay7_at _ _ _ (k0_pay13 (F := Ideal) (k0_pay2 v3) k0_pay5 (arg3.view.readAt (Elt Ideal) (Rect.unit (s := S512x512) (k0_off1 k) S64x512.size (k0_off1_inb k)).toLoadRect X_arg3)) _ _ x e).trans ?_
    unfold trip_k0_t1.sl.r_1 trip_k0_t1.sl.r_5 trip_k0_t1.sl.r
    rw [headRow_eq 3 _ hb _ _ _ _ (stateOf arg9 g) (fun e d => ?_)]
    · rw [load_rows, load_rows, load_rows, vec_bound]
      exact congrArg (fun y => fin _ _ y e) (congrFun (congrFun (load_rows arg5 X_arg5 k _) x) (ch 3 e))
    · unfold trip_k0_t1.sl.r_12 trip_k0_t1.sl.v192
      rw [pay29_at, load_state arg9 g 3 ![3, 0, 0] inb_S4x128x128_S1x128x128_3_0_0 rfl]

/-- A trip leaves the other chunks' rows of the output block as it found them. -/
theorem trip_out_off (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f : BufTy.Contents (Elt Ideal) arg8.view.ty) (g : BufTy.Contents (Elt Ideal) arg9.view.ty) (y : S512x512.Idx)
    (hy : (y 0).val < 64 * k.val ∨ 64 * k.val + 64 ≤ (y 0).val) :
    arg8.view.read (Elt Ideal) (arg8.view.writes (Elt Ideal) f ((trip_k0_t1 (F := Ideal) 𝒱 c bd i arg2 harg2 arg3 harg3 arg4 harg4 arg5 harg5 arg6 harg6 arg7 harg7 arg8 harg8 arg9 harg9 v3 v13 X_arg2 X_arg3 X_arg4 X_arg5 k).1 f g)) y = arg8.view.read (Elt Ideal) f y := by
  unfold trip_k0_t1
  dsimp only
  rw [View.read_writes_cons_unit_of_not_mem arg8.view f _ _ _ _ (off5 k) 0 hy,
    View.read_writes_cons_unit_of_not_mem arg8.view f _ _ _ _ (off4 k) 0 hy,
    View.read_writes_cons_unit_of_not_mem arg8.view f _ _ _ _ (off3 k) 0 hy,
    View.read_writes_cons_unit_of_not_mem arg8.view f _ _ _ _ (off2 k) 0 hy]
  rfl

end Cert.Hgrn

end
-- ==== Proof.Hgrn.Fold.lean ====
/- The kernel's chunk loop, read: the trips before the n-th leave the carried state the recurrence's state n chunks on, and
   the output block's chunks the recurrence's output rows. -/
module

public import proofs.«01_k».proof.Proof.Hgrn.Trip

@[expose] public section

set_option maxRecDepth 16384

noncomputable section

namespace Cert.Hgrn

open Cert.KernelIdeal Cert.KernelIdeal.Gen
open Idealize.ShloMosaic Idealize.ShloMosaic.TcCoe Idealize.ShloMosaic.Tactic
open Idealize.SL Idealize.SL.Sem

/-- The carried state after the first `n` trips, the block's chunks being chunks `s`, `s + 1`, … of a batch. -/
theorem fold_state (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
    (f : BufTy.Contents (Elt Ideal) arg8.view.ty) (g : BufTy.Contents (Elt Ideal) arg9.view.ty)
    (Fs Vs : ℕ → Fin 64 → Fin 512 → EReal) (s : ℕ)
    (hF : ∀ k, rows arg3 X_arg3 k = Fs (s + k.val)) (hV : ∀ k, rows arg4 X_arg4 k = Vs (s + k.val))
    (hS : stateOf arg9 g = state (lower (fun a c => v3 (ix2 a c))) Fs Vs s) (n : ℕ) (hn : n ≤ k0_t1_loop.trips) :
    stateOf arg9 (arg9.view.writes (Elt Ideal) g (pb_k0_t1 (F := Ideal) 𝒱 c bd i arg2 harg2 arg3 harg3 arg4 harg4 arg5 harg5 arg6 harg6 arg7 harg7 arg8 harg8 arg9 harg9 v3 v13 X_arg2 X_arg3 X_arg4 X_arg5 f g n).2) = state (lower (fun a c => v3 (ix2 a c))) Fs Vs (s + n) := by
  induction n with
  | zero => exact hS
  | succ n ih =>
    have hk : n < k0_t1_loop.trips := hn
    rw [show pb_k0_t1 (F := Ideal) 𝒱 c bd i arg2 harg2 arg3 harg3 arg4 harg4 arg5 harg5 arg6 harg6 arg7 harg7 arg8 harg8 arg9 harg9 v3 v13 X_arg2 X_arg3 X_arg4 X_arg5 f g (n + 1) = _ from pb_k0_t1_succ 𝒱 c bd i arg2 harg2 arg3 harg3 arg4 harg4 arg5 harg5 arg6 harg6 arg7 harg7 arg8 harg8 arg9 harg9 v3 v13 X_arg2 X_arg3 X_arg4 X_arg5 f g ⟨n, hk⟩]
    dsimp only
    rw [View.writes_append, trip_state, ih hk.le, hF ⟨n, hk⟩, hV ⟨n, hk⟩]
    rfl

/-- The output block after the first `n` trips, at the chunks they wrote. -/
theorem fold_out (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (v3 : Vec Ideal S2x512 .f32) (v13 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
    (f : BufTy.Contents (Elt Ideal) arg8.view.ty) (g : BufTy.Contents (Elt Ideal) arg9.view.ty)
    (Qs Fs Vs Os : ℕ → Fin 64 → Fin 512 → EReal) (s : ℕ)
    (hQ : ∀ k, rows arg2 X_arg2 k = Qs (s + k.val)) (hF : ∀ k, rows arg3 X_arg3 k = Fs (s + k.val))
    (hV : ∀ k, rows arg4 X_arg4 k = Vs (s + k.val)) (hO : ∀ k, rows arg5 X_arg5 k = Os (s + k.val))
    (hS : stateOf arg9 g = state (lower (fun a c => v3 (ix2 a c))) Fs Vs s) (n : ℕ) (hn : n ≤ k0_t1_loop.trips)
    (k : Fin k0_t1_loop.trips) (hk : k.val < n) (x : Fin 64) (h : Fin 4) (e : Fin 128) :
    arg8.view.read (Elt Ideal) (arg8.view.writes (Elt Ideal) f (pb_k0_t1 (F := Ideal) 𝒱 c bd i arg2 harg2 arg3 harg3 arg4 harg4 arg5 harg5 arg6 harg6 arg7 harg7 arg8 harg8 arg9 harg9 v3 v13 X_arg2 X_arg3 X_arg4 X_arg5 f g n).1) (ix2 (rowAt k x) (ch h e))
      = fin (row (lower (fun a c => v3 (ix2 a c))) (Qs (s + k.val)) (Fs (s + k.val)) (Vs (s + k.val)) (state (lower (fun a c => v3 (ix2 a c))) Fs Vs (s + k.val)) h x)
          (fun e => v13 (ix2 0 e)) (Os (s + k.val) x (ch h e)) e := by
  induction n with
  | zero => exact absurd hk (Nat.not_lt_zero _)
  | succ n ih =>
    have hn' : n < k0_t1_loop.trips := hn
    rw [show pb_k0_t1 (F := Ideal) 𝒱 c bd i arg2 harg2 arg3 harg3 arg4 harg4 arg5 harg5 arg6 harg6 arg7 harg7 arg8 harg8 arg9 harg9 v3 v13 X_arg2 X_arg3 X_arg4 X_arg5 f g (n + 1) = _ from pb_k0_t1_succ 𝒱 c bd i arg2 harg2 arg3 harg3 arg4 harg4 arg5 harg5 arg6 harg6 arg7 harg7 arg8 harg8 arg9 harg9 v3 v13 X_arg2 X_arg3 X_arg4 X_arg5 f g ⟨n, hn'⟩]
    dsimp only
    rw [View.writes_append]
    by_cases hkn : k.val = n
    · obtain rfl : k = ⟨n, hn'⟩ := Fin.ext hkn
      have hst := fold_state 𝒱 c bd i arg2 harg2 arg3 harg3 arg4 harg4 arg5 harg5 arg6 harg6 arg7 harg7 arg8 harg8 arg9 harg9 v3 v13 X_arg2 X_arg3 X_arg4 X_arg5 f g Fs Vs s hF hV hS n hn'.le
      match h with
      | ⟨0, _⟩ => exact (trip_out_0 𝒱 c bd i arg2 harg2 arg3 harg3 arg4 harg4 arg5 harg5 arg6 harg6 arg7 harg7 arg8 harg8 arg9 harg9 v3 v13 X_arg2 X_arg3 X_arg4 X_arg5 ⟨n, hn'⟩ _ _ x e).trans (by rw [hst, hQ ⟨n, hn'⟩, hF ⟨n, hn'⟩, hV ⟨n, hn'⟩, hO ⟨n, hn'⟩]; rfl)
      | ⟨1, _⟩ => exact (trip_out_1 𝒱 c bd i arg2 harg2 arg3 harg3 arg4 harg4 arg5 harg5 arg6 harg6 arg7 harg7 arg8 harg8 arg9 harg9 v3 v13 X_arg2 X_arg3 X_arg4 X_arg5 ⟨n, hn'⟩ _ _ x e).trans (by rw [hst, hQ ⟨n, hn'⟩, hF ⟨n, hn'⟩, hV ⟨n, hn'⟩, hO ⟨n, hn'⟩]; rfl)
      | ⟨2, _⟩ => exact (trip_out_2 𝒱 c bd i arg2 harg2 arg3 harg3 arg4 harg4 arg5 harg5 arg6 harg6 arg7 harg7 arg8 harg8 arg9 harg9 v3 v13 X_arg2 X_arg3 X_arg4 X_arg5 ⟨n, hn'⟩ _ _ x e).trans (by rw [hst, hQ ⟨n, hn'⟩, hF ⟨n, hn'⟩, hV ⟨n, hn'⟩, hO ⟨n, hn'⟩]; rfl)
      | ⟨3, _⟩ => exact (trip_out_3 𝒱 c bd i arg2 harg2 arg3 harg3 arg4 harg4 arg5 harg5 arg6 harg6 arg7 harg7 arg8 harg8 arg9 harg9 v3 v13 X_arg2 X_arg3 X_arg4 X_arg5 ⟨n, hn'⟩ _ _ x e).trans (by rw [hst, hQ ⟨n, hn'⟩, hF ⟨n, hn'⟩, hV ⟨n, hn'⟩, hO ⟨n, hn'⟩]; rfl)
    · rw [trip_out_off]
      · exact ih hn'.le (by omega)
      · have : (ix2 (rowAt k x) (ch h e) 0 : Fin 512).val = 64 * k.val + x.val := rfl
        refine Or.inl ?_
        show 64 * k.val + x.val < 64 * n
        omega

end Cert.Hgrn

end
-- ==== Proof.Hgrn.Point.lean ====
/- The kernel's body at one grid point, read: the carried state and the output block it leaves. -/
module

public import proofs.«01_k».proof.Proof.Hgrn.Fold
public import proofs.«01_k».proof.Proof.Hgrn.Frame
public import Idealize.ShloMosaic.Lib.VecWindow

@[expose] public section

set_option maxRecDepth 16384

noncomputable section

namespace Cert.Hgrn

open Cert.KernelIdeal Cert.KernelIdeal.Gen Cert.KernelIdeal.Hand
open Idealize.ShloMosaic Idealize.ShloMosaic.TcCoe Idealize.ShloMosaic.Tactic
open Idealize.SL Idealize.SL.Sem

/-- The whole bound array, loaded. -/
theorem lb_read (a : Memref sig .tc .vmem S2x512 .f32) (ha : a.IsWhole) (x : Vec Ideal S2x512 .f32) (h) :
    a.view.readAt (Elt Ideal) (Rect.unit (s := S2x512) ![0, 0] ![2, 512] h).toLoadRect (ha.unread x) = x :=
  (View.readAt_full a.view (ha.unread x) h).trans (ha.read_unread x)

/-- The whole gain array, loaded. -/
theorem ng_read (a : Memref sig .tc .vmem S1x128 .f32) (ha : a.IsWhole) (x : Vec Ideal S1x128 .f32) (h) :
    a.view.readAt (Elt Ideal) (Rect.unit (s := S1x128) ![0, 0] ![1, 128] h).toLoadRect (ha.unread x) = x :=
  (View.readAt_full a.view (ha.unread x) h).trans (ha.read_unread x)

theorem trips_lit : Scf.trips 0#32 (Scalar.addi 0#32 8#32) 1#32 = 8 := by decide +kernel

/-- The state a batch starts from is zero. -/
theorem zero_state (a : Memref sig .tc .vmem S4x128x128 .f32) :
    stateOf a (a.view.writes (Elt Ideal) a.view.junk (kernelRun0_A.sl.HS0_1 (F := Ideal))) = fun _ _ _ => 0 := by
  funext h d e
  unfold stateOf kernelRun0_A.sl.HS0_1
  exact (View.read_writes_cons_unit_of_mem a.view _ _ _ _ _ (ix3 h e d) rfl (fun b => by match b with
    | ⟨0, _⟩ => exact (Nat.zero_add _).symm
    | ⟨1, _⟩ => exact (Nat.zero_add _).symm
    | ⟨2, _⟩ => exact (Nat.zero_add _).symm)).trans (by unfold k0_pay1; pointwise)

/-- What the body leaves in the carried state at a grid point of a batch's start. -/
theorem state_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 x1 x2 x3 : Vec Ideal S512x512 .f32) (x4 : Vec Ideal S2x512 .f32) (x5 : Vec Ideal S1x128 .f32)
    (lo : Fin 512 → EReal) (Fs Vs : ℕ → Fin 64 → Fin 512 → EReal) (s : ℕ)
    (hF : ∀ (k : Fin k0_t1_loop.trips) i a, x1 (ix2 (rowAt k i) a) = Fs (s + k.val) i a)
    (hV : ∀ (k : Fin k0_t1_loop.trips) i a, x2 (ix2 (rowAt k i) a) = Vs (s + k.val) i a)
    (hlo : lower (fun a b => x4 (ix2 a b)) = lo) (hs : s = 0) (h : Fin 4) (d e : Fin 128) :
    sout0_A_0 c i arg2 harg2 arg3 harg3 arg4 harg4 arg5 harg5 arg6 harg6 arg7 harg7 arg8 harg8 arg9 harg9 hc0 x0 x1 x2 x3 x4 x5 (ix3 h e d) = state lo Fs Vs (s + 8) h d e := by
  subst hlo
  have hL := fold_state Variants.none c none i arg2 harg2 arg3 harg3 arg4 harg4 arg5 harg5 arg6 harg6 arg7 harg7 arg8 harg8 arg9 harg9
    (arg6.view.readAt (Elt Ideal) (Rect.unit (s := S2x512) ![0, 0] ![2, 512] inb_S2x512_S2x512_0_0).toLoadRect (harg6.unread x4))
    (arg7.view.readAt (Elt Ideal) (Rect.unit (s := S1x128) ![0, 0] ![1, 128] inb_S1x128_S1x128_0_0).toLoadRect (harg7.unread x5))
    (harg2.unread x0) (harg3.unread x1) (harg4.unread x2) (harg5.unread x3) arg8.view.junk (arg9.view.writes (Elt Ideal) arg9.view.junk kernelRun0_A.sl.HS0_1) Fs Vs s
    (fun k => by funext i a; unfold rows; rw [harg3.read_unread]; exact hF k i a)
    (fun k => by funext i a; unfold rows; rw [harg4.read_unread]; exact hV k i a)
    (by rw [lb_read]; rw [hs, zero_state]; rfl) 8 (by decide +kernel)
  rw [lb_read, ng_read] at hL
  have hL := congrFun (congrFun (congrFun hL h) d) e
  unfold sout0_A_0
  rw [View.read_writes_junk_eq_canon]
  unfold stateOf at hL
  rw [← View.writes_append, View.read_writes_junk_eq_canon] at hL
  unfold kernelRun0_A
  dsimp only
  rw [lb_read, ng_read, trips_lit]
  exact hL

/-- What the body leaves in the output block at a grid point of a batch's start. -/
theorem out_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 x1 x2 x3 : Vec Ideal S512x512 .f32) (x4 : Vec Ideal S2x512 .f32) (x5 : Vec Ideal S1x128 .f32)
    (lo : Fin 512 → EReal) (g : Fin 128 → EReal) (Qs Fs Vs Os : ℕ → Fin 64 → Fin 512 → EReal) (s : ℕ)
    (hQ : ∀ (k : Fin k0_t1_loop.trips) i a, x0 (ix2 (rowAt k i) a) = Qs (s + k.val) i a)
    (hF : ∀ (k : Fin k0_t1_loop.trips) i a, x1 (ix2 (rowAt k i) a) = Fs (s + k.val) i a)
    (hV : ∀ (k : Fin k0_t1_loop.trips) i a, x2 (ix2 (rowAt k i) a) = Vs (s + k.val) i a)
    (hO : ∀ (k : Fin k0_t1_loop.trips) i a, x3 (ix2 (rowAt k i) a) = Os (s + k.val) i a)
    (hlo : lower (fun a b => x4 (ix2 a b)) = lo) (hg : ∀ e, x5 (ix2 0 e) = g e) (hs : s = 0)
    (k : Fin k0_t1_loop.trips) (x : Fin 64) (h : Fin 4) (e : Fin 128) :
    out0_A_6 c i arg2 harg2 arg3 harg3 arg4 harg4 arg5 harg5 arg6 harg6 arg7 harg7 arg8 harg8 arg9 harg9 hc0 x0 x1 x2 x3 x4 x5 (ix2 (rowAt k x) (ch h e))
      = fin (row lo (Qs (s + k.val)) (Fs (s + k.val)) (Vs (s + k.val)) (state lo Fs Vs (s + k.val)) h x) g (Os (s + k.val) x (ch h e)) e := by
  subst hlo
  obtain rfl : (fun e => x5 (ix2 0 e)) = g := funext hg
  have hL := fold_out Variants.none c none i arg2 harg2 arg3 harg3 arg4 harg4 arg5 harg5 arg6 harg6 arg7 harg7 arg8 harg8 arg9 harg9
    (arg6.view.readAt (Elt Ideal) (Rect.unit (s := S2x512) ![0, 0] ![2, 512] inb_S2x512_S2x512_0_0).toLoadRect (harg6.unread x4))
    (arg7.view.readAt (Elt Ideal) (Rect.unit (s := S1x128) ![0, 0] ![1, 128] inb_S1x128_S1x128_0_0).toLoadRect (harg7.unread x5))
    (harg2.unread x0) (harg3.unread x1) (harg4.unread x2) (harg5.unread x3) arg8.view.junk (arg9.view.writes (Elt Ideal) arg9.view.junk kernelRun0_A.sl.HS0_1) Qs Fs Vs Os s
    (fun k => by funext i a; unfold rows; rw [harg2.read_unread]; exact hQ k i a)
    (fun k => by funext i a; unfold rows; rw [harg3.read_unread]; exact hF k i a)
    (fun k => by funext i a; unfold rows; rw [harg4.read_unread]; exact hV k i a)
    (fun k => by funext i a; unfold rows; rw [harg5.read_unread]; exact hO k i a)
    (by rw [lb_read]; rw [hs, zero_state]; rfl) 8 (by decide +kernel) k (by have := k.isLt; have := trips_eq; omega) x h e
  rw [lb_read, ng_read] at hL
  unfold out0_A_6
  rw [View.read_writes_junk_eq_canon] at hL ⊢
  unfold kernelRun0_A
  dsimp only
  rw [lb_read, ng_read, trips_lit]
  exact hL

/-- What the body leaves in the carried state at a grid point of a batch past its start. -/
theorem state_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 x1 x2 x3 : Vec Ideal S512x512 .f32) (x4 : Vec Ideal S2x512 .f32) (x5 : Vec Ideal S1x128 .f32) (xs0 : Vec Ideal S4x128x128 .f32)
    (lo : Fin 512 → EReal) (Fs Vs : ℕ → Fin 64 → Fin 512 → EReal) (s : ℕ)
    (hF : ∀ (k : Fin k0_t1_loop.trips) i a, x1 (ix2 (rowAt k i) a) = Fs (s + k.val) i a)
    (hV : ∀ (k : Fin k0_t1_loop.trips) i a, x2 (ix2 (rowAt k i) a) = Vs (s + k.val) i a)
    (hlo : lower (fun a b => x4 (ix2 a b)) = lo) (hS : ∀ h d e, xs0 (ix3 h e d) = state lo Fs Vs s h d e) (h : Fin 4) (d e : Fin 128) :
    sout0_B_0 c i arg2 harg2 arg3 harg3 arg4 harg4 arg5 harg5 arg6 harg6 arg7 harg7 arg8 harg8 arg9 harg9 hc0 x0 x1 x2 x3 x4 x5 xs0 (ix3 h e d) = state lo Fs Vs (s + 8) h d e := by
  subst hlo
  have hL := fold_state Variants.none c none i arg2 harg2 arg3 harg3 arg4 harg4 arg5 harg5 arg6 harg6 arg7 harg7 arg8 harg8 arg9 harg9
    (arg6.view.readAt (Elt Ideal) (Rect.unit (s := S2x512) ![0, 0] ![2, 512] inb_S2x512_S2x512_0_0).toLoadRect (harg6.unread x4))
    (arg7.view.readAt (Elt Ideal) (Rect.unit (s := S1x128) ![0, 0] ![1, 128] inb_S1x128_S1x128_0_0).toLoadRect (harg7.unread x5))
    (harg2.unread x0) (harg3.unread x1) (harg4.unread x2) (harg5.unread x3) arg8.view.junk (harg9.unread xs0) Fs Vs s
    (fun k => by funext i a; unfold rows; rw [harg3.read_unread]; exact hF k i a)
    (fun k => by funext i a; unfold rows; rw [harg4.read_unread]; exact hV k i a)
    (by rw [lb_read]; funext h d e; unfold stateOf; rw [harg9.read_unread]; exact hS h d e) 8 (by decide +kernel)
  rw [lb_read, ng_read] at hL
  have hL := congrFun (congrFun (congrFun hL h) d) e
  unfold sout0_B_0
  rw [View.read_writes_junk_eq_canon]
  unfold stateOf at hL
  rw [← hL, ← View.read_writes_eq_canon arg9.view (harg9.unread xs0) _ (scover0_B_0 c i arg2 harg2 arg3 harg3 arg4 harg4 arg5 harg5 arg6 harg6 arg7 harg7 arg8 harg8 arg9 harg9 hc0 x0 x1 x2 x3 x4 x5 xs0)]
  unfold kernelRun0_B
  dsimp only
  rw [lb_read, ng_read, trips_lit]

/-- What the body leaves in the output block at a grid point of a batch past its start. -/
theorem out_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 x1 x2 x3 : Vec Ideal S512x512 .f32) (x4 : Vec Ideal S2x512 .f32) (x5 : Vec Ideal S1x128 .f32) (xs0 : Vec Ideal S4x128x128 .f32)
    (lo : Fin 512 → EReal) (g : Fin 128 → EReal) (Qs Fs Vs Os : ℕ → Fin 64 → Fin 512 → EReal) (s : ℕ)
    (hQ : ∀ (k : Fin k0_t1_loop.trips) i a, x0 (ix2 (rowAt k i) a) = Qs (s + k.val) i a)
    (hF : ∀ (k : Fin k0_t1_loop.trips) i a, x1 (ix2 (rowAt k i) a) = Fs (s + k.val) i a)
    (hV : ∀ (k : Fin k0_t1_loop.trips) i a, x2 (ix2 (rowAt k i) a) = Vs (s + k.val) i a)
    (hO : ∀ (k : Fin k0_t1_loop.trips) i a, x3 (ix2 (rowAt k i) a) = Os (s + k.val) i a)
    (hlo : lower (fun a b => x4 (ix2 a b)) = lo) (hg : ∀ e, x5 (ix2 0 e) = g e) (hS : ∀ h d e, xs0 (ix3 h e d) = state lo Fs Vs s h d e)
    (k : Fin k0_t1_loop.trips) (x : Fin 64) (h : Fin 4) (e : Fin 128) :
    out0_B_6 c i arg2 harg2 arg3 harg3 arg4 harg4 arg5 harg5 arg6 harg6 arg7 harg7 arg8 harg8 arg9 harg9 hc0 x0 x1 x2 x3 x4 x5 xs0 (ix2 (rowAt k x) (ch h e))
      = fin (row lo (Qs (s + k.val)) (Fs (s + k.val)) (Vs (s + k.val)) (state lo Fs Vs (s + k.val)) h x) g (Os (s + k.val) x (ch h e)) e := by
  subst hlo
  obtain rfl : (fun e => x5 (ix2 0 e)) = g := funext hg
  have hL := fold_out Variants.none c none i arg2 harg2 arg3 harg3 arg4 harg4 arg5 harg5 arg6 harg6 arg7 harg7 arg8 harg8 arg9 harg9
    (arg6.view.readAt (Elt Ideal) (Rect.unit (s := S2x512) ![0, 0] ![2, 512] inb_S2x512_S2x512_0_0).toLoadRect (harg6.unread x4))
    (arg7.view.readAt (Elt Ideal) (Rect.unit (s := S1x128) ![0, 0] ![1, 128] inb_S1x128_S1x128_0_0).toLoadRect (harg7.unread x5))
    (harg2.unread x0) (harg3.unread x1) (harg4.unread x2) (harg5.unread x3) arg8.view.junk (harg9.unread xs0) Qs Fs Vs Os s
    (fun k => by funext i a; unfold rows; rw [harg2.read_unread]; exact hQ k i a)
    (fun k => by funext i a; unfold rows; rw [harg3.read_unread]; exact hF k i a)
    (fun k => by funext i a; unfold rows; rw [harg4.read_unread]; exact hV k i a)
    (fun k => by funext i a; unfold rows; rw [harg5.read_unread]; exact hO k i a)
    (by rw [lb_read]; funext h d e; unfold stateOf; rw [harg9.read_unread]; exact hS h d e) 8 (by decide +kernel) k (by have := k.isLt; have := trips_eq; omega) x h e
  rw [lb_read, ng_read] at hL
  unfold out0_B_6
  rw [View.read_writes_junk_eq_canon] at hL ⊢
  unfold kernelRun0_B
  dsimp only
  rw [lb_read, ng_read, trips_lit]
  exact hL

end Cert.Hgrn
-- ==== Proof.Hgrn.Value.lean ====
/- The recurrence kernel's result array, block by block. -/
module

public import proofs.«01_k».proof.Proof.Hgrn.Frame
public import Idealize.ShloMosaic.Lib.Pipeline.Value

@[expose] public section

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 4 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (X0_0 m c t) (X0_1 m c t) (X0_2 m c t) (X0_3 m c t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 4 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (X0_0 m c t) (X0_1 m c t) (X0_2 m c t) (X0_3 m c t) (iblk m c 4 t) (iblk m c 5 t) (outsAt0 m c (t.val - 1) (Nat.lt_of_le_of_lt (Nat.sub_le _ _) t.isLt)).2) := by
  simp only [flushed6, outsAt0_B m c t h0]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S32768x512.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2) = (dats m 0 c).arrAt 6 cfg0.N :=
  (h c).1 6

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post6 m r h c,
      kept_main_arg0 m r h c,
      kept_main_arg1 m r h c,
      kept_main_arg2 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 4)
    stores the scratch whole without reading what it held, and `acc` does not enter there (nor where no point meets the
    conditions: `acc`, never read). -/
def scAt0_0 (c : Dev nD) (n : ℕ) (hb : n < cfg0.N) (acc : Vec F S4x128x128 .f32) : Vec F S4x128x128 .f32 :=
  if h0 : n % 4 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (X0_0 m c (⟨n, hb⟩ : Fin cfg0.N)) (X0_1 m c (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) acc

/-- WHAT CARRIED SCRATCH 0 HOLDS after point `t`: the fold of its run up to `t`, from the reset at the run's first point
    `4·(t / 4)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (4 * (t.val / 4)) (t.val % 4)
      (by have h1 := t.isLt; have h2 := Nat.div_add_mod t.val 4; omega) :=
  Pipeline.eq_accAt_of_mod (fun n h => (outsAt0 m c n h).2) 4 (fun n h => scAt0_0 m c n h (VS0_0.read (Elt F) VS0_0.junk)) (scAt0_0 m c)
    (fun n h hn => by
      have hN := lt_of_lt_of_eq h (show cfg0.N = 64 from N_0)
      by_cases h0 : n % 4 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 4 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x512 .f32 × Vec F S4x128x128 .f32 :=
  ((VO0_6.read (Elt F) VO0_6.junk, VS0_0.read (Elt F) VS0_0.junk) : Vec F S512x512 .f32 × Vec F S4x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x512 .f32 × Vec F S4x128x128 .f32) : Vec F S512x512 .f32 × Vec F S4x128x128 .f32 :=
  if h0 : n % 4 = 0 then
    (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (X0_0 m c (⟨n, hb⟩ : Fin cfg0.N)) (X0_1 m c (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (X0_0 m c (⟨n, hb⟩ : Fin cfg0.N)) (X0_1 m c (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)))
  else
    (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) acc.2)

/-- `stAt0` at a point of case A: that case's contents. -/
theorem stAt0_A (c : Dev nD) (t : Fin cfg0.N) (acc : Vec F S512x512 .f32 × Vec F S4x128x128 .f32) (h0 : t.val % 4 = 0) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (X0_0 m c t) (X0_1 m c t) (X0_2 m c t) (X0_3 m c t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (X0_0 m c t) (X0_1 m c t) (X0_2 m c t) (X0_3 m c t) (iblk m c 4 t) (iblk m c 5 t)) :=
  (dif_pos h0).trans rfl

/-- `stAt0` at a point of case B: that case's contents, over `acc`. -/
theorem stAt0_B (c : Dev nD) (t : Fin cfg0.N) (acc : Vec F S512x512 .f32 × Vec F S4x128x128 .f32) (h0 : ¬t.val % 4 = 0) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (X0_0 m c t) (X0_1 m c t) (X0_2 m c t) (X0_3 m c t) (iblk m c 4 t) (iblk m c 5 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (X0_0 m c t) (X0_1 m c t) (X0_2 m c t) (X0_3 m c t) (iblk m c 4 t) (iblk m c 5 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one per point),
    `i`'s place in it, and the point that writes it back. -/
abbrev run6Of (i : S32768x512.Idx) : ℕ := 1 * ((i 0).val / 512 - 0) + 1 * ((i 1).val / 512 - 0)
set_option backward.proofsInPublic true in
abbrev loc6Of (i : S32768x512.Idx) : S512x512.Idx := fun a => match a with
  | ⟨0, _⟩ => ⟨(i 0).val % 512, Nat.mod_lt _ (by decide)⟩
  | ⟨1, _⟩ => ⟨(i 1).val % 512, Nat.mod_lt _ (by decide)⟩
abbrev pt6Of (i : S32768x512.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v2) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 63
    ∧ 0 ≤ win0_6.index t (1 : Fin 2) ∧ win0_6.index t (1 : Fin 2) ≤ 0
    ∧ 1 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 64) (q1 : Fin 1) : Fin grid0.N :=
  ⟨1 * q0.val + 1 * q1.val, lt_of_lt_of_eq (by omega) N_0.symm⟩
theorem idx_onto6 : ∀ (q0 : Fin 64) (q1 : Fin 1), ∃ t : Fin cfg0.N, (cfg0.win 6).flush t = true ∧ win0_6.index t = ![q0.val + 0, q1.val + 0] :=
  fun q0 q1 => ⟨onto6Pt q0 q1, (by decide +kernel : ∀ (q0 : Fin 64) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 512 := (y 0).isLt
  have hy1 : (y 1).val < 512 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 512 + 1 * (y 1).val := rfl
  have hr : run6Of (((cfg0.win 6).blk t).view.emb y) = t.val := by
    show 1 * ((((cfg0.win 6).blk t).view.emb y 0).val / 512 - 0) + 1 * ((((cfg0.win 6).blk t).view.emb y 1).val / 512 - 0) = _
    rw [hb0, hb1]
    rw [show (win0_6.index t (0 : Fin 2) * 512 + 1 * (y 0).val) / 512 = win0_6.index t (0 : Fin 2) from by omega]; rw [show (win0_6.index t (1 : Fin 2) * 512 + 1 * (y 1).val) / 512 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 512 = (y 0).val; rw [hb0]; omega
    | ⟨1, _⟩ => show (((cfg0.win 6).blk t).view.emb y 1).val % 512 = (y 1).val; rw [hb1]; omega
  have hp : pt6Of (((cfg0.win 6).blk t).view.emb y) = t.val := by
    exact hr
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S32768x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v2).slice (win0_6.rect t)).set ↔ _
  rw [View.set_slice_whole, Rect.mem_set_unit]
  exact Iff.rfl

/-- THE COVERED INDICES: in some flushing point's block iff inside the box those blocks fill. -/
theorem covered_iff6 (i : S32768x512.Idx) :
    (∃ t : Fin cfg0.N, (cfg0.win 6).flush t = true ∧ i ∈ ((cfg0.win 6).blk t).view.set) ↔ 0 ≤ (i 0).val ∧ (i 0).val < 32768 ∧ 0 ≤ (i 1).val ∧ (i 1).val < 512 := by
  constructor
  · rintro ⟨t, -, hi⟩
    rw [mem_blk6] at hi
    have b0 : win0_6.index t (0 : Fin 2) * 512 ≤ (i 0).val ∧ (i 0).val < win0_6.index t (0 : Fin 2) * 512 + 512 := hi 0
    have b1 : win0_6.index t (1 : Fin 2) * 512 ≤ (i 1).val ∧ (i 1).val < win0_6.index t (1 : Fin 2) * 512 + 512 := hi 1
    obtain ⟨e0, e1, e2⟩ := idx_facts6 t
    omega
  · intro h
    have hi0 : (i 0).val < 32768 := (i 0).isLt
    have hi1 : (i 1).val < 512 := (i 1).isLt
    obtain ⟨t, hft, ht⟩ := idx_onto6 ⟨(i 0).val / 512 - 0, by omega⟩ ⟨(i 1).val / 512 - 0, by omega⟩
    have q0 : win0_6.index t (0 : Fin 2) = (i 0).val / 512 - 0 + 0 := congrFun ht 0
    have q1 : win0_6.index t (1 : Fin 2) = (i 1).val / 512 - 0 + 0 := congrFun ht 1
    refine ⟨t, hft, ?_⟩
    rw [mem_blk6]
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 512 ≤ (i 1).val ∧ (i 1).val < win0_6.index t (1 : Fin 2) * 512 + 512; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 32768 := (i 0).isLt; have h1 : (i 1).val < 512 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post6 m r h c).trans (final6 m c),
      kept_main_arg0 m r h c,
      kept_main_arg1 m r h c,
      kept_main_arg2 m r h c⟩)
    (run_main m ρ)

end Cert.KernelIdeal.HandValue

end
-- ==== Proof.Hgrn.KernelVal.lean ====
/- The recurrence kernel's result array at an index: the recurrence's output row. -/
module

public import proofs.«01_k».proof.Proof.Hgrn.Point
public import proofs.«01_k».proof.Proof.Hgrn.Value

@[expose] public section

set_option maxRecDepth 16384

noncomputable section

namespace Cert.Hgrn

open Cert.KernelIdeal Cert.KernelIdeal.Gen Cert.KernelIdeal.Hand Cert.KernelIdeal.HandValue
open Idealize.ShloMosaic Idealize.ShloMosaic.TcCoe Idealize.ShloMosaic.Tactic
open Idealize.SL Idealize.SL.Sem

variable (m : (ℓ : Loc nD τ sig) → Buf (Elt Ideal) ℓ)

/-- The projections a device is launched with. -/
def argP (c : Dev nD) (R : Fin 32768) (C : Fin 4352) : EReal := (m ((c : Thread nD τ).loc main_arg0) : S32768x4352.Idx → EReal) (ix2 R C)
/-- The head norm's gain a device is launched with. -/
def argG (c : Dev nD) (e : Fin 128) : EReal := (m ((c : Thread nD τ).loc main_arg1) : S1x128.Idx → EReal) (ix2 0 e)
/-- The bounds' logits a device is launched with. -/
def argL (c : Dev nD) (a : Fin 2) (b : Fin 512) : EReal := (m ((c : Thread nD τ).loc main_arg2) : S2x512.Idx → EReal) (ix2 a b)

/-- Column group 0 of the projections, as grid point `t` reads it: rows `512 t` on. -/
theorem block_0 (c : Dev nD) (t : Fin cfg0.N) (r a : Fin 512) (R : Fin 32768) (C : Fin 4352) (hR : R.val = 512 * t.val + r.val) (hC : C.val = 512 * 0 + a.val) :
    X0_0 m c t (ix2 r a) = argP m c R C := by
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold X0_0 Pipeline.Window.fill
  rw [dif_pos (moved0_0 t (ix2 r a))]
  unfold iblk
  rw [View.read_apply, cast_eq]
  refine (congrFun (V_main_arg0 m c) _).trans (congrArg (m ((c : Thread nD τ).loc main_arg0)) (funext fun b => Fin.ext ?_))
  match b with
  | ⟨0, _⟩ => show win0_0.index t (0 : Fin 2) * 512 + 1 * r.val = R.val; omega
  | ⟨1, _⟩ => show win0_0.index t (1 : Fin 2) * 512 + 1 * a.val = C.val; omega

/-- Column group 1 of the projections, as grid point `t` reads it: rows `512 t` on. -/
theorem block_1 (c : Dev nD) (t : Fin cfg0.N) (r a : Fin 512) (R : Fin 32768) (C : Fin 4352) (hR : R.val = 512 * t.val + r.val) (hC : C.val = 512 * 1 + a.val) :
    X0_1 m c t (ix2 r a) = argP m c R C := by
  have hi : win0_1.index t (0 : Fin 2) = t.val ∧ win0_1.index t (1 : Fin 2) = 1 :=
    (by decide +kernel : ∀ t : Fin grid0.N, win0_1.index t (0 : Fin 2) = t.val ∧ win0_1.index t (1 : Fin 2) = 1) t
  unfold X0_1 Pipeline.Window.fill
  rw [dif_pos (moved0_1 t (ix2 r a))]
  unfold iblk
  rw [View.read_apply, cast_eq]
  refine (congrFun (V_main_arg0 m c) _).trans (congrArg (m ((c : Thread nD τ).loc main_arg0)) (funext fun b => Fin.ext ?_))
  match b with
  | ⟨0, _⟩ => show win0_1.index t (0 : Fin 2) * 512 + 1 * r.val = R.val; omega
  | ⟨1, _⟩ => show win0_1.index t (1 : Fin 2) * 512 + 1 * a.val = C.val; omega

/-- Column group 2 of the projections, as grid point `t` reads it: rows `512 t` on. -/
theorem block_2 (c : Dev nD) (t : Fin cfg0.N) (r a : Fin 512) (R : Fin 32768) (C : Fin 4352) (hR : R.val = 512 * t.val + r.val) (hC : C.val = 512 * 2 + a.val) :
    X0_2 m c t (ix2 r a) = argP m c R C := by
  have hi : win0_2.index t (0 : Fin 2) = t.val ∧ win0_2.index t (1 : Fin 2) = 2 :=
    (by decide +kernel : ∀ t : Fin grid0.N, win0_2.index t (0 : Fin 2) = t.val ∧ win0_2.index t (1 : Fin 2) = 2) t
  unfold X0_2 Pipeline.Window.fill
  rw [dif_pos (moved0_2 t (ix2 r a))]
  unfold iblk
  rw [View.read_apply, cast_eq]
  refine (congrFun (V_main_arg0 m c) _).trans (congrArg (m ((c : Thread nD τ).loc main_arg0)) (funext fun b => Fin.ext ?_))
  match b with
  | ⟨0, _⟩ => show win0_2.index t (0 : Fin 2) * 512 + 1 * r.val = R.val; omega
  | ⟨1, _⟩ => show win0_2.index t (1 : Fin 2) * 512 + 1 * a.val = C.val; omega

/-- Column group 3 of the projections, as grid point `t` reads it: rows `512 t` on. -/
theorem block_3 (c : Dev nD) (t : Fin cfg0.N) (r a : Fin 512) (R : Fin 32768) (C : Fin 4352) (hR : R.val = 512 * t.val + r.val) (hC : C.val = 512 * 3 + a.val) :
    X0_3 m c t (ix2 r a) = argP m c R C := by
  have hi : win0_3.index t (0 : Fin 2) = t.val ∧ win0_3.index t (1 : Fin 2) = 3 :=
    (by decide +kernel : ∀ t : Fin grid0.N, win0_3.index t (0 : Fin 2) = t.val ∧ win0_3.index t (1 : Fin 2) = 3) t
  unfold X0_3 Pipeline.Window.fill
  rw [dif_pos (moved0_3 t (ix2 r a))]
  unfold iblk
  rw [View.read_apply, cast_eq]
  refine (congrFun (V_main_arg0 m c) _).trans (congrArg (m ((c : Thread nD τ).loc main_arg0)) (funext fun b => Fin.ext ?_))
  match b with
  | ⟨0, _⟩ => show win0_3.index t (0 : Fin 2) * 512 + 1 * r.val = R.val; omega
  | ⟨1, _⟩ => show win0_3.index t (1 : Fin 2) * 512 + 1 * a.val = C.val; omega

/-- The bounds' logits, as every grid point reads them. -/
theorem block_4 (c : Dev nD) (t : Fin cfg0.N) (a : Fin 2) (b : Fin 512) : iblk m c 4 t (ix2 a b) = argL m c a b := by
  have hi : win0_4.index t (0 : Fin 2) = 0 ∧ win0_4.index t (1 : Fin 2) = 0 :=
    (by decide +kernel : ∀ t : Fin grid0.N, win0_4.index t (0 : Fin 2) = 0 ∧ win0_4.index t (1 : Fin 2) = 0) t
  unfold iblk
  rw [View.read_apply, cast_eq]
  refine (congrFun (V_main_arg2 m c) _).trans (congrArg (m ((c : Thread nD τ).loc main_arg2)) (funext fun x => Fin.ext ?_))
  match x with
  | ⟨0, _⟩ => show win0_4.index t (0 : Fin 2) * 2 + 1 * a.val = a.val; omega
  | ⟨1, _⟩ => show win0_4.index t (1 : Fin 2) * 512 + 1 * b.val = b.val; omega

/-- The gain buffer when the kernel starts: the gain, reshaped to a row of 128 and back. -/
theorem V_gain (c : Dev nD) (e : Fin 128) : (V m c main_v1 : S1x128.Idx → EReal) (ix2 0 e) = argG m c e := by
  have h : V m c main_v1 = shapeCast S1x128 (shapeCast S128 (m ((c : Thread nD τ).loc main_arg1) : S1x128.Idx → EReal) shapeCasts_S1x128_S128) shapeCasts_S128_S1x128 := by
    unfold_abbrev_sides
    after_results
    rfl
  rw [h]
  unfold argG
  pointwise

/-- The head norm's gain, as every grid point reads it. -/
theorem block_5 (c : Dev nD) (t : Fin cfg0.N) (e : Fin 128) : iblk m c 5 t (ix2 0 e) = argG m c e := by
  have hi : win0_5.index t (0 : Fin 2) = 0 ∧ win0_5.index t (1 : Fin 2) = 0 :=
    (by decide +kernel : ∀ t : Fin grid0.N, win0_5.index t (0 : Fin 2) = 0 ∧ win0_5.index t (1 : Fin 2) = 0) t
  unfold iblk
  rw [View.read_apply, cast_eq]
  refine Eq.trans (congrArg (V m c main_v1) (funext fun x => Fin.ext ?_)) (V_gain m c e)
  match x with
  | ⟨0, _⟩ => show win0_5.index t (0 : Fin 2) * 1 + 1 * 0 = 0; omega
  | ⟨1, _⟩ => show win0_5.index t (1 : Fin 2) * 128 + 1 * e.val = e.val; omega

/-- Chunk `k` of the block grid point `t` reads of column group 0 is chunk `8 (t mod 4) + k` of batch `t / 4`. -/
theorem chunk_0 (c : Dev nD) (t : Fin cfg0.N) (k : Fin k0_t1_loop.trips) (i : Fin 64) (a : Fin 512) :
    X0_0 m c t (ix2 (rowAt k i) a) = chunk (argP m c) 0 (t.val / 4) (8 * (t.val % 4) + k.val) i a := by
  have ht : t.val < 64 := lt_of_lt_of_eq t.isLt N_0
  have hk := k.isLt
  have := trips_eq
  exact block_0 m c t (rowAt k i) a _ _ (by show (2048 * (t.val / 4) + 64 * (8 * (t.val % 4) + k.val) + i.val) % 32768 = 512 * t.val + (64 * k.val + i.val); omega) rfl

/-- Chunk `k` of the block grid point `t` reads of column group 1 is chunk `8 (t mod 4) + k` of batch `t / 4`. -/
theorem chunk_1 (c : Dev nD) (t : Fin cfg0.N) (k : Fin k0_t1_loop.trips) (i : Fin 64) (a : Fin 512) :
    X0_1 m c t (ix2 (rowAt k i) a) = chunk (argP m c) 1 (t.val / 4) (8 * (t.val % 4) + k.val) i a := by
  have ht : t.val < 64 := lt_of_lt_of_eq t.isLt N_0
  have hk := k.isLt
  have := trips_eq
  exact block_1 m c t (rowAt k i) a _ _ (by show (2048 * (t.val / 4) + 64 * (8 * (t.val % 4) + k.val) + i.val) % 32768 = 512 * t.val + (64 * k.val + i.val); omega) rfl

/-- Chunk `k` of the block grid point `t` reads of column group 2 is chunk `8 (t mod 4) + k` of batch `t / 4`. -/
theorem chunk_2 (c : Dev nD) (t : Fin cfg0.N) (k : Fin k0_t1_loop.trips) (i : Fin 64) (a : Fin 512) :
    X0_2 m c t (ix2 (rowAt k i) a) = chunk (argP m c) 2 (t.val / 4) (8 * (t.val % 4) + k.val) i a := by
  have ht : t.val < 64 := lt_of_lt_of_eq t.isLt N_0
  have hk := k.isLt
  have := trips_eq
  exact block_2 m c t (rowAt k i) a _ _ (by show (2048 * (t.val / 4) + 64 * (8 * (t.val % 4) + k.val) + i.val) % 32768 = 512 * t.val + (64 * k.val + i.val); omega) rfl

/-- Chunk `k` of the block grid point `t` reads of column group 3 is chunk `8 (t mod 4) + k` of batch `t / 4`. -/
theorem chunk_3 (c : Dev nD) (t : Fin cfg0.N) (k : Fin k0_t1_loop.trips) (i : Fin 64) (a : Fin 512) :
    X0_3 m c t (ix2 (rowAt k i) a) = chunk (argP m c) 3 (t.val / 4) (8 * (t.val % 4) + k.val) i a := by
  have ht : t.val < 64 := lt_of_lt_of_eq t.isLt N_0
  have hk := k.isLt
  have := trips_eq
  exact block_3 m c t (rowAt k i) a _ _ (by show (2048 * (t.val / 4) + 64 * (8 * (t.val % 4) + k.val) + i.val) % 32768 = 512 * t.val + (64 * k.val + i.val); omega) rfl

/-- The carried state after grid point `n`: the recurrence's state after the chunks of its batch so far. -/
theorem state_after (c : Dev nD) (n : ℕ) (hn : n < cfg0.N) (h : Fin 4) (d e : Fin 128) :
    (outsAt0 m c n hn).2 (ix3 h e d)
      = state (lower (argL m c)) (chunk (argP m c) 1 (n / 4)) (chunk (argP m c) 2 (n / 4)) (8 * (n % 4) + 8) h d e := by
  induction n generalizing h d e with
  | zero =>
    rw [show outsAt0 m c 0 hn = _ from outsAt0_A m c ⟨0, hn⟩ rfl]
    exact state_A _ _ _ _ _ _ _ _ _ _ _ _ _ _ _ _ _ _ _ _ _ _ _ _ _ _ _ _ _ (chunk_1 m c ⟨0, hn⟩) (chunk_2 m c ⟨0, hn⟩)
      (congrArg lower (funext fun a => funext fun b => block_4 m c ⟨0, hn⟩ a b)) rfl h d e
  | succ n ih =>
    by_cases h0 : (n + 1) % 4 = 0
    · rw [show outsAt0 m c (n + 1) hn = _ from outsAt0_A m c ⟨n + 1, hn⟩ h0]
      exact state_A _ _ _ _ _ _ _ _ _ _ _ _ _ _ _ _ _ _ _ _ _ _ _ _ _ _ _ _ _ (chunk_1 m c ⟨n + 1, hn⟩) (chunk_2 m c ⟨n + 1, hn⟩)
        (congrArg lower (funext fun a => funext fun b => block_4 m c ⟨n + 1, hn⟩ a b)) (by show 8 * ((n + 1) % 4) = 0; omega) h d e
    · rw [show outsAt0 m c (n + 1) hn = _ from outsAt0_B m c ⟨n + 1, hn⟩ h0]
      exact state_B _ _ _ _ _ _ _ _ _ _ _ _ _ _ _ _ _ _ _ _ _ _ _ _ _ _ _ _ _ _ (chunk_1 m c ⟨n + 1, hn⟩) (chunk_2 m c ⟨n + 1, hn⟩)
        (congrArg lower (funext fun a => funext fun b => block_4 m c ⟨n + 1, hn⟩ a b))
        (fun h d e => (ih (by omega) h d e).trans (by
          rw [show n / 4 = (n + 1) / 4 from by omega, show 8 * (n % 4) + 8 = 8 * ((n + 1) % 4) from by omega])) h d e

/-- The carried state as a batch's later grid point finds it. -/
theorem state_before (c : Dev nD) (t : Fin cfg0.N) (h0 : ¬t.val % 4 = 0) (hp : t.val - 1 < cfg0.N) (h : Fin 4) (d e : Fin 128) :
    (outsAt0 m c (t.val - 1) hp).2 (ix3 h e d)
      = state (lower (argL m c)) (chunk (argP m c) 1 (t.val / 4)) (chunk (argP m c) 2 (t.val / 4)) (8 * (t.val % 4)) h d e :=
  (state_after m c _ hp h d e).trans (by
    rw [show (t.val - 1) / 4 = t.val / 4 from by omega, show 8 * ((t.val - 1) % 4) + 8 = 8 * (t.val % 4) from by omega])

/-- The output block a grid point writes. -/
theorem block_out (c : Dev nD) (t : Fin cfg0.N) (k : Fin k0_t1_loop.trips) (x : Fin 64) (h : Fin 4) (e : Fin 128) :
    (outsAt0 m c t.val t.isLt).1 (ix2 (rowAt k x) (ch h e))
      = out (argP m c) (argG m c) (argL m c) (t.val / 4) (8 * (t.val % 4) + k.val) h x e := by
  have hl : lower (fun a b => iblk m c 4 t (ix2 a b)) = lower (argL m c) :=
    congrArg lower (funext fun a => funext fun b => block_4 m c t a b)
  by_cases h0 : t.val % 4 = 0
  · rw [outsAt0_A m c t h0]
    exact out_A _ _ _ _ _ _ _ _ _ _ _ _ _ _ _ _ _ _ _ _ _ _ _ _ _ _ _ _ _ _ _ _ (chunk_0 m c t) (chunk_1 m c t) (chunk_2 m c t) (chunk_3 m c t)
      hl (block_5 m c t) (by omega) k x h e
  · rw [outsAt0_B m c t h0]
    exact out_B _ _ _ _ _ _ _ _ _ _ _ _ _ _ _ _ _ _ _ _ _ _ _ _ _ _ _ _ _ _ _ _ _ (chunk_0 m c t) (chunk_1 m c t) (chunk_2 m c t) (chunk_3 m c t)
      hl (block_5 m c t) (state_before m c t h0 _) k x h e

/-- The kernel's result array at an index: the recurrence's output at the index's batch, chunk, row of the chunk, head and channel. -/
theorem kernel_value (c : Dev nD) (R : Fin 32768) (C : Fin 512) :
    (G6 m c : S32768x512.Idx → EReal) (ix2 R C)
      = out (argP m c) (argG m c) (argL m c) (R.val / 2048) (R.val % 2048 / 64) ⟨C.val / 128, by omega⟩ ⟨R.val % 64, by omega⟩ ⟨C.val % 128, by omega⟩ := by
  have hp : pt6Of (ix2 R C) = R.val / 512 := by
    show 1 * (R.val / 512 - 0) + 1 * (C.val / 512 - 0) = _; omega
  have ht : R.val / 512 < cfg0.N := lt_of_lt_of_eq (by omega) N_0.symm
  unfold G6
  rw [dif_pos (by rw [hp]; exact ht), ← outsAt0_sweep m c _ (by rw [hp]; exact ht)]
  have hl : loc6Of (ix2 R C) = ix2 (rowAt ⟨R.val % 512 / 64, by rw [trips_eq]; omega⟩ ⟨R.val % 64, by omega⟩) (ch ⟨C.val / 128, by omega⟩ ⟨C.val % 128, by omega⟩) := by
    funext a; apply Fin.ext
    match a with
    | ⟨0, _⟩ => show R.val % 512 = 64 * (R.val % 512 / 64) + R.val % 64; omega
    | ⟨1, _⟩ => show C.val % 512 = 128 * (C.val / 128) + C.val % 128; omega
  rw [hl]
  have hb := block_out m c ⟨R.val / 512, ht⟩ ⟨R.val % 512 / 64, by rw [trips_eq]; omega⟩ ⟨R.val % 64, by omega⟩ ⟨C.val / 128, by omega⟩ ⟨C.val % 128, by omega⟩
  rw [show R.val / 512 / 4 = R.val / 2048 from by omega, show 8 * (R.val / 512 % 4) + R.val % 512 / 64 = R.val % 2048 / 64 from by omega] at hb
  refine Eq.trans ?_ hb
  simp only [hp]

end Cert.Hgrn
-- ==== Proof.Hgrn.RefArr.lean ====
/- The reference's arrays before its loop, at an index: the recurrence's gate, decays, queries, keys, values and the chunks'
   attention to themselves. -/
module

public import proofs.«01_k».proof.Proof.Hgrn.Pay
public import proofs.«01_k».proof.Proof.Gen.ReferenceIdeal.Step
public import Idealize.ShloMosaic.Lib.Pointwise

@[expose] public section

set_option maxRecDepth 16384

noncomputable section

namespace Cert.HgrnRef

open Cert.Hgrn Cert.ReferenceIdeal Cert.ReferenceIdeal.Gen Cert.ReferenceIdeal.Step
open Idealize.ShloMosaic Idealize.ShloMosaic.TcCoe Idealize.ShloMosaic.Tactic
open Idealize.SL Idealize.SL.Sem

/-- A left fold of additions is the start plus the sum. -/
theorem foldl_add {n : ℕ} (F : Fin n → EReal) (L : List (Fin n)) (v : EReal) :
    L.foldl (fun r k => r + F k) v = v + (L.map F).sum := by
  induction L generalizing v with
  | nil => simp
  | cons a L ih => rw [List.foldl_cons, ih, List.map_cons, List.sum_cons, add_assoc]

/-- A sum over windows padded with zeros, at an index: the sum over the window's positions of the operand where the position
    lies in it. -/
theorem window_sum {s t u : Shape} (window strides lo hi : Fin s.rank → ℕ) (x : FVec Ideal s .f32) (init : u.Idx → Ideal .f32)
    (h : s.ReduceWindows window strides lo hi t) (hu : 0 < u.numel) (hz : init (Shape.Idx.first hu) = (0 : EReal)) (j : t.Idx) :
    Host.reduceWindowAdd window strides lo hi x init h hu j
      = ∑ w : (⟨s.rank, window⟩ : Shape).Idx,
          if hin : ∀ a, lo a ≤ (j (a.cast h.1.symm)).val * strides a + (w a).val ∧ (j (a.cast h.1.symm)).val * strides a + (w a).val - lo a < s.size a
          then (x (fun a => ⟨(j (a.cast h.1.symm)).val * strides a + (w a).val - lo a, (hin a).2⟩) : EReal) else 0 := by
  show List.foldl _ _ _ = _
  refine (foldl_add _ _ _).trans ?_
  rw [← List.ofFn_eq_map, List.sum_ofFn]
  show init (Shape.Idx.first hu) + _ = _
  rw [hz, zero_add]
  refine (Equiv.sum_comp (Shape.rowMajor ⟨s.rank, window⟩).symm (fun w : (⟨s.rank, window⟩ : Shape).Idx => if hin : ∀ a, lo a ≤ (j (a.cast h.1.symm)).val * strides a + (w a).val ∧ (j (a.cast h.1.symm)).val * strides a + (w a).val - lo a < s.size a
          then (x (fun a => ⟨(j (a.cast h.1.symm)).val * strides a + (w a).val - lo a, (hin a).2⟩) : EReal) else 0)) ▸ ?_
  refine Finset.sum_congr rfl fun n _ => ?_
  dsimp only
  split_ifs <;> first | rfl | exact hz

/-- A window of 64 ending at row `i` of 64 covers the rows up to `i`. -/
theorem shift_sum (y : Fin 64 → EReal) (i : Fin 64) :
    (∑ w : Fin 64, if h : 63 ≤ i.val + w.val ∧ i.val + w.val - 63 < 64 then y ⟨i.val + w.val - 63, h.2⟩ else 0)
      = ∑ s : Fin 64, if s ≤ i then y s else 0 := by
  rw [← Finset.sum_filter]
  refine Eq.symm ?_
  refine (Finset.sum_subset_zero_on_sdiff (s₁ := (Finset.univ.filter (fun s : Fin 64 => s ≤ i)).image (fun s => (⟨(s.val + 63 - i.val) % 64, Nat.mod_lt _ (by decide)⟩ : Fin 64))) (s₂ := Finset.univ) (Finset.subset_univ _)
    (f := fun w => y ⟨(i.val + w.val + 1) % 64, Nat.mod_lt _ (by decide)⟩) (g := fun w : Fin 64 => if h : 63 ≤ i.val + w.val ∧ i.val + w.val - 63 < 64 then y ⟨i.val + w.val - 63, h.2⟩ else 0) ?_ ?_).symm ▸ ?_
  · intro w hw
    rw [dif_neg]
    rintro ⟨h1, h2⟩
    refine (Finset.mem_sdiff.mp hw).2 (Finset.mem_image.mpr ⟨⟨i.val + w.val - 63, h2⟩, Finset.mem_filter.mpr ⟨Finset.mem_univ _, ?_⟩, Fin.ext ?_⟩)
    · show i.val + w.val - 63 ≤ i.val; omega
    · show (i.val + w.val - 63 + 63 - i.val) % 64 = w.val; omega
  · intro w hw
    obtain ⟨s, hs, rfl⟩ := Finset.mem_image.mp hw
    have hs' : s.val ≤ i.val := (Finset.mem_filter.mp hs).2
    rw [dif_pos (by constructor <;> (show _ ; dsimp only; omega))]
    congr 1; apply Fin.ext; dsimp only; omega
  · rw [Finset.sum_image]
    · refine Finset.sum_congr rfl fun s hs => ?_
      have hs' : s.val ≤ i.val := (Finset.mem_filter.mp hs).2
      congr 1; apply Fin.ext; dsimp only; omega
    · intro s hs s' hs' he
      have h1 : s.val ≤ i.val := (Finset.mem_filter.mp hs).2
      have h2 : s'.val ≤ i.val := (Finset.mem_filter.mp hs').2
      have := congrArg Fin.val he
      apply Fin.ext; dsimp only at this; omega

/-- The maximum with the start of a maximum changes nothing. -/
theorem max_fold {n : ℕ} (a : EReal) (y : Fin n → EReal) : max a (Finset.fold max a y Finset.univ) = Finset.fold max a y Finset.univ :=
  max_eq_right ((Finset.le_fold_max a).mpr (Or.inl le_rfl))

variable (P : S32768x4352.Idx → EReal) (L : S2x512.Idx → EReal)

/-- The first softmax weight. -/
theorem weight_at (c : Fin 512) : (A_main_v10 (F := Ideal) P L : S2x512.Idx → EReal) (ix2 0 c) = lower (fun a b => L (ix2 a b)) c := by
  unfold A_main_v10 A_main_v9 A_main_v8 A_main_v7 A_main_v6 A_main_v5 A_main_v4 A_main_v3 A_main_v2 A_main_v0 K_main_v1 K_main_cst K_main_cst_0 K_main_cst_1 lower top
  pointwise
  rw [max_fold]

/-- The running sum of the weights at its first row is the first weight. -/
theorem lower_at (c : Fin 512) : (A_main_v13 (F := Ideal) P L : S512.Idx → EReal) (ix1 c) = lower (fun a b => L (ix2 a b)) c := by
  rw [← weight_at P L c]
  unfold A_main_v13 A_main_v12
  pointwise
  unfold A_main_v11
  rw [window_sum _ _ _ _ _ _ _ _ (by unfold K_main_call0_call0_v0 K_main_call0_call0_cst; pointwise)]
  rw [sum_idx2, Fin.sum_univ_two, Fin.sum_univ_one, Fin.sum_univ_one]
  rw [dif_neg, dif_pos, zero_add]
  · refine congrArg _ (funext fun a => Fin.ext ?_)
    match a with
    | ⟨0, _⟩ => rfl
    | ⟨1, _⟩ => show c.val * 1 + 0 - 0 = c.val; omega
  · intro a
    match a with
    | ⟨0, _⟩ => exact (by decide : 1 ≤ 0 * 1 + 1 ∧ 0 * 1 + 1 - 1 < 2)
    | ⟨1, _⟩ => show 0 ≤ c.val * 1 + 0 ∧ c.val * 1 + 0 - 0 < 512; omega
  · intro hall
    have h0 := (hall (0 : Fin 2)).1
    exact absurd h0 (by decide : ¬(1 ≤ 0 * 1 + 0))

/-- The running log decay inside a chunk. -/
theorem cum_at (b : Fin 16) (h : Fin 4) (n : Fin 32) (i : Fin 64) (d : Fin 128) :
    (A_main_v49 (F := Ideal) P L : S16x4x32x64x128.Idx → EReal) (ix5 b h n i d)
      = ∑ s : Fin 64, if s ≤ i then (A_main_v48 (F := Ideal) P L : S16x4x32x64x128.Idx → EReal) (ix5 b h n s d) else 0 := by
  unfold A_main_v49
  rw [window_sum _ _ _ _ _ _ _ _ (by unfold K_main_call1_call0_v0 K_main_call1_call0_cst; pointwise)]
  refine (sum_idx5 _).trans ?_
  rw [← shift_sum]
  rw [Fin.sum_univ_one, Fin.sum_univ_one, Fin.sum_univ_one]
  refine Finset.sum_congr rfl fun w _ => ?_
  rw [Fin.sum_univ_one]
  by_cases hw : 63 ≤ i.val + w.val ∧ i.val + w.val - 63 < 64
  · rw [dif_pos hw, dif_pos]
    · refine congrArg _ (funext fun a => Fin.ext ?_)
      match a with
      | ⟨0, _⟩ => show b.val * 1 + 0 - 0 = b.val; omega
      | ⟨1, _⟩ => show h.val * 1 + 0 - 0 = h.val; omega
      | ⟨2, _⟩ => show n.val * 1 + 0 - 0 = n.val; omega
      | ⟨3, _⟩ => show i.val * 1 + w.val - 63 = i.val + w.val - 63; omega
      | ⟨4, _⟩ => show d.val * 1 + 0 - 0 = d.val; omega
    · intro a
      match a with
      | ⟨0, _⟩ => show 0 ≤ b.val * 1 + 0 ∧ b.val * 1 + 0 - 0 < 16; omega
      | ⟨1, _⟩ => show 0 ≤ h.val * 1 + 0 ∧ h.val * 1 + 0 - 0 < 4; omega
      | ⟨2, _⟩ => show 0 ≤ n.val * 1 + 0 ∧ n.val * 1 + 0 - 0 < 32; omega
      | ⟨3, _⟩ => show 63 ≤ i.val * 1 + w.val ∧ i.val * 1 + w.val - 63 < 64; omega
      | ⟨4, _⟩ => show 0 ≤ d.val * 1 + 0 ∧ d.val * 1 + 0 - 0 < 128; omega
  · rw [dif_neg hw, dif_neg]
    intro hall
    have h3 := hall (3 : Fin 5)
    change 63 ≤ i.val * 1 + w.val ∧ i.val * 1 + w.val - 63 < 64 at h3
    omega

/-- An entry of the projections, by column group, batch, chunk and row. -/
theorem chunk_eq (k : Fin 4) (b : Fin 16) (h : Fin 4) (n : Fin 32) (i : Fin 64) (d : Fin 128) (R : Fin 32768) (C : Fin 4352)
    (hR : R.val = b.val * 2048 + (n.val * 64 + i.val)) (hC : C.val = 512 * k.val + (h.val * 128 + d.val)) :
    P (ix2 R C) = chunk (fun R C => P (ix2 R C)) k b.val n.val i (ch h d) := by
  unfold chunk ch
  dsimp only
  congr 2 <;> (apply Fin.ext; dsimp only; omega)

/-- The forget gate. -/
theorem gate_at (b : Fin 16) (r : Fin 2048) (c : Fin 512) :
    (A_main_v31 (F := Ideal) P L : S16x2048x512.Idx → EReal) (ix3 b r c)
      = gate (lower (fun a b => L (ix2 a b)) c) (P (ix2 ⟨b.val * 2048 + r.val, by omega⟩ ⟨512 + c.val, by omega⟩)) := by
  rw [← lower_at P L c]
  unfold A_main_v31 A_main_v30 A_main_v29 A_main_v28 A_main_v27 A_main_v26 A_main_v25 A_main_v23 A_main_v21 A_main_v20 A_main_v19 A_main_v16 A_main_v14 K_main_v18 K_main_v22 K_main_v24 K_main_cst_2 K_main_cst_3 K_main_cst_4 gate
  pointwise
  rfl

/-- The forget gate, by chunks. -/
theorem gate_chunk (b : Fin 16) (h : Fin 4) (n : Fin 32) (i : Fin 64) (d : Fin 128) (r : Fin 2048) (c : Fin 512)
    (hr : r.val = n.val * 64 + i.val) (hc : c.val = h.val * 128 + d.val) :
    (A_main_v31 (F := Ideal) P L : S16x2048x512.Idx → EReal) (ix3 b r c)
      = gate (lower (fun a b => L (ix2 a b)) (ch h d)) (chunk (fun R C => P (ix2 R C)) 1 b.val n.val i (ch h d)) := by
  obtain rfl : c = ch h d := Fin.ext (by show c.val = 128 * h.val + d.val; omega)
  rw [gate_at, chunk_eq P 1 b h n i d]
  · show b.val * 2048 + r.val = _; omega
  · show 512 + (128 * h.val + d.val) = 512 * 1 + _; omega

/-- The log of the forget gate, by chunks. -/
theorem lf_at (b : Fin 16) (h : Fin 4) (n : Fin 32) (i : Fin 64) (d : Fin 128) :
    (A_main_v48 (F := Ideal) P L : S16x4x32x64x128.Idx → EReal) (ix5 b h n i d)
      = lf (lower (fun a b => L (ix2 a b))) (chunk (fun R C => P (ix2 R C)) 1 b.val n.val) i (ch h d) := by
  unfold A_main_v48 A_main_v47 A_main_v32 lf
  pointwise
  rw [gate_chunk P L b h n i d _ _ rfl rfl]

/-- The running log decay, by chunks. -/
theorem G_at (b : Fin 16) (h : Fin 4) (n : Fin 32) (i : Fin 64) (d : Fin 128) :
    (A_main_v49 (F := Ideal) P L : S16x4x32x64x128.Idx → EReal) (ix5 b h n i d)
      = G (lower (fun a b => L (ix2 a b))) (chunk (fun R C => P (ix2 R C)) 1 b.val n.val) i (ch h d) := by
  rw [cum_at]
  unfold G
  simp only [lf_at]

/-- The projections, a batch's rows apart. -/
theorem split_at (b : Fin 16) (r : Fin 2048) (c : Fin 4352) :
    (A_main_v14 (F := Ideal) P L : S16x2048x4352.Idx → EReal) (ix3 b r c) = P (ix2 ⟨b.val * 2048 + r.val, by omega⟩ c) := by
  unfold A_main_v14
  pointwise

/-- The query gate, by rows. -/
theorem q_row (b : Fin 16) (r : Fin 2048) (c : Fin 512) :
    (A_main_v40 (F := Ideal) P L : S16x2048x512.Idx → EReal) (ix3 b r c)
      = Ideal.logistic (P (ix2 ⟨b.val * 2048 + r.val, by omega⟩ ⟨c.val, by omega⟩)) := by
  unfold A_main_v40 A_main_v38 A_main_v36 A_main_v35 A_main_v15 K_main_v37 K_main_v39 K_main_cst_6 K_main_cst_7
  pointwise
  rw [split_at]
  rfl

/-- The query gate, by chunks. -/
theorem q_at (b : Fin 16) (h : Fin 4) (n : Fin 32) (i : Fin 64) (d : Fin 128) :
    (A_main_v42 (F := Ideal) P L : S16x4x32x64x128.Idx → EReal) (ix5 b h n i d)
      = Ideal.logistic (chunk (fun R C => P (ix2 R C)) 0 b.val n.val i (ch h d)) := by
  unfold A_main_v42 A_main_v41
  pointwise
  rw [q_row, chunk_eq P 0 b h n i d _ _ rfl (by show h.val * 128 + d.val = 512 * 0 + (h.val * 128 + d.val); omega)]

/-- The key, one less the gate, by chunks. -/
theorem k_at (b : Fin 16) (h : Fin 4) (n : Fin 32) (i : Fin 64) (d : Fin 128) :
    (A_main_v44 (F := Ideal) P L : S16x4x32x64x128.Idx → EReal) (ix5 b h n i d)
      = 1 - gate (lower (fun a b => L (ix2 a b)) (ch h d)) (chunk (fun R C => P (ix2 R C)) 1 b.val n.val i (ch h d)) := by
  unfold A_main_v44 A_main_v43 A_main_v34 K_main_v33 K_main_cst_5
  pointwise
  rw [gate_chunk P L b h n i d _ _ rfl rfl]

/-- The values, by rows. -/
theorem v_row (b : Fin 16) (r : Fin 2048) (c : Fin 512) :
    (A_main_v17 (F := Ideal) P L : S16x2048x512.Idx → EReal) (ix3 b r c)
      = P (ix2 ⟨b.val * 2048 + r.val, by omega⟩ ⟨1024 + c.val, by omega⟩) := by
  unfold A_main_v17
  pointwise
  rw [split_at]

/-- The values, by chunks. -/
theorem v_at (b : Fin 16) (h : Fin 4) (n : Fin 32) (i : Fin 64) (d : Fin 128) :
    (A_main_v46 (F := Ideal) P L : S16x4x32x64x128.Idx → EReal) (ix5 b h n i d)
      = chunk (fun R C => P (ix2 R C)) 2 b.val n.val i (ch h d) := by
  unfold A_main_v46 A_main_v45
  pointwise
  rw [v_row, chunk_eq P 2 b h n i d _ _ rfl (by show 1024 + (h.val * 128 + d.val) = 512 * 2 + (h.val * 128 + d.val); omega)]

/-- The decayed queries. -/
theorem qd_at (b : Fin 16) (h : Fin 4) (n : Fin 32) (i : Fin 64) (d : Fin 128) :
    (A_main_v52 (F := Ideal) P L : S16x4x32x64x128.Idx → EReal) (ix5 b h n i d)
      = qd (lower (fun a b => L (ix2 a b))) (chunk (fun R C => P (ix2 R C)) 0 b.val n.val) (chunk (fun R C => P (ix2 R C)) 1 b.val n.val) i (ch h d) := by
  unfold A_main_v52 A_main_v51 qd
  pointwise
  rw [q_at, G_at]

/-- The keys decayed back. -/
theorem ki_at (b : Fin 16) (h : Fin 4) (n : Fin 32) (i : Fin 64) (d : Fin 128) :
    (A_main_v55 (F := Ideal) P L : S16x4x32x64x128.Idx → EReal) (ix5 b h n i d)
      = ki (lower (fun a b => L (ix2 a b))) (chunk (fun R C => P (ix2 R C)) 1 b.val n.val) i (ch h d) := by
  unfold A_main_v55 A_main_v54 A_main_v53 ki
  pointwise
  rw [k_at, G_at]

/-- The loop's queries. -/
theorem loop_q (n : Fin 32) (b : Fin 16) (h : Fin 4) (i : Fin 64) (d : Fin 128) :
    (A_main_v67 (F := Ideal) P L : S32x16x4x64x128.Idx → EReal) (ix5 n b h i d)
      = qd (lower (fun a b => L (ix2 a b))) (chunk (fun R C => P (ix2 R C)) 0 b.val n.val) (chunk (fun R C => P (ix2 R C)) 1 b.val n.val) i (ch h d) := by
  unfold A_main_v67
  pointwise
  rw [qd_at]

/-- The loop's keys, decayed on to the chunk's end. -/
theorem loop_k (n : Fin 32) (b : Fin 16) (h : Fin 4) (i : Fin 64) (d : Fin 128) :
    (A_main_v68 (F := Ideal) P L : S32x16x4x64x128.Idx → EReal) (ix5 n b h i d)
      = ks (lower (fun a b => L (ix2 a b))) (chunk (fun R C => P (ix2 R C)) 1 b.val n.val) i (ch h d) := by
  unfold A_main_v68 A_main_v59 A_main_v58 A_main_v57 A_main_v56 A_main_v50 ks
  pointwise
  rw [k_at]
  simp only [G_at]

/-- The loop's values. -/
theorem loop_v (n : Fin 32) (b : Fin 16) (h : Fin 4) (i : Fin 64) (d : Fin 128) :
    (A_main_v69 (F := Ideal) P L : S32x16x4x64x128.Idx → EReal) (ix5 n b h i d)
      = chunk (fun R C => P (ix2 R C)) 2 b.val n.val i (ch h d) := by
  unfold A_main_v69
  pointwise
  rw [v_at]

/-- The loop's whole-chunk decays. -/
theorem loop_d (n : Fin 32) (b : Fin 16) (h : Fin 4) (d : Fin 128) :
    (A_main_v72 (F := Ideal) P L : S32x16x4x128.Idx → EReal) (ix4 n b h d)
      = Ideal.exp (G (lower (fun a b => L (ix2 a b))) (chunk (fun R C => P (ix2 R C)) 1 b.val n.val) 63 (ch h d)) := by
  unfold A_main_v72 A_main_v71 A_main_v70 A_main_v50
  pointwise
  rw [← G_at]

/-- The loop's own-chunk attention. -/
theorem loop_i (n : Fin 32) (b : Fin 16) (h : Fin 4) (i : Fin 64) (e : Fin 128) :
    (A_main_v66 (F := Ideal) P L : S32x16x4x64x128.Idx → EReal) (ix5 n b h i e)
      = intra (lower (fun a b => L (ix2 a b))) (chunk (fun R C => P (ix2 R C)) 0 b.val n.val) (chunk (fun R C => P (ix2 R C)) 1 b.val n.val) (chunk (fun R C => P (ix2 R C)) 2 b.val n.val) h i e := by
  unfold A_main_v66 A_main_v64 A_main_v63 A_main_v62 K_main_call3_v1 K_main_call3_v2 K_main_call3_v0 K_main_cst_8 K_main_v61 K_main_call2_v5 K_main_call2_v4 K_main_call2_v3 K_main_call2_v2 K_main_call2_v1 K_main_call2_v0 K_main_v60 K_main_c K_main_call2_c K_main_call2_c_0 intra
  pointwise
  simp only [qd_at, ki_at, v_at]
  refine Finset.sum_congr rfl fun x _ => ?_
  have hz : id (constant (F := Ideal) S_ FTy.f32 0#32) ix0 = (0 : EReal) := by
    show constant (F := Ideal) S_ FTy.f32 0#32 ix0 = (0 : EReal)
    pointwise
  rw [hz, show IntOp.addi (BitVec.ofNat 32 i.val) 0#32 = BitVec.ofNat 32 i.val from BitVec.add_zero _, sge_iff]
  by_cases hx : x ≤ i
  · rw [if_pos hx, if_pos hx]; rfl
  · rw [if_neg hx, if_neg hx]; rfl
end Cert.HgrnRef
-- ==== Proof.Hgrn.StepRun.lean ====
/- The reference's loop over the chunks as its one step iterated: what every operation of a trip is of the trip's state, and
   the run of the whole program at the last state. -/
module

public import proofs.«01_k».proof.Proof.Gen.ReferenceIdeal.Run
public import proofs.«01_k».proof.Proof.Gen.ReferenceIdeal.Step

@[expose] public section

noncomputable section

namespace Cert.ReferenceIdeal.HandStepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v74_6) = s.main_v74_6
  f_7 : V0 (Proc.devRef .tc main_v74_7) = s.main_v74_7
  f_0 : V0 (Proc.devRef .tc main_v74_0) = s.main_v74_0
  f_1 : V0 (Proc.devRef .tc main_v74_1) = s.main_v74_1
  f_2 : V0 (Proc.devRef .tc main_v74_2) = s.main_v74_2
  f_3 : V0 (Proc.devRef .tc main_v74_3) = s.main_v74_3
  f_4 : V0 (Proc.devRef .tc main_v74_4) = s.main_v74_4
  n_5 : V0 (Proc.devRef .tc main_v74_5) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call4_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call4_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call4_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x16x4x64x128 (V0 (Proc.devRef .tc main_v74_0)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128 : (Proc.devRef .tc main_while0b_call4_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (shapeCast S16x4x64x128 (Host.dynamicSlice S1x16x4x64x128 (V0 (Proc.devRef .tc main_v74_0)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128 : (Proc.devRef .tc main_while0b_v98 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call5_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call5_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call5_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call5_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x16x4x64x128 (V0 (Proc.devRef .tc main_v74_1)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128 : (Proc.devRef .tc main_while0b_call5_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (shapeCast S16x4x64x128 (Host.dynamicSlice S1x16x4x64x128 (V0 (Proc.devRef .tc main_v74_1)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128 : (Proc.devRef .tc main_while0b_v99 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call6_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call6_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call6_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call6_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x16x4x64x128 (V0 (Proc.devRef .tc main_v74_2)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128 : (Proc.devRef .tc main_while0b_call6_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (shapeCast S16x4x64x128 (Host.dynamicSlice S1x16x4x64x128 (V0 (Proc.devRef .tc main_v74_2)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128 : (Proc.devRef .tc main_while0b_v100 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call7_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call7_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call7_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call7_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x16x4x64x128 (V0 (Proc.devRef .tc main_v74_3)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128 : (Proc.devRef .tc main_while0b_call7_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
theorem al_23 (h : Holds V0 s j) : (shapeCast S16x4x64x128 (Host.dynamicSlice S1x16x4x64x128 (V0 (Proc.devRef .tc main_v74_3)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128 : (Proc.devRef .tc main_while0b_v101 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call8_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call8_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call8_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x16x4x128 (V0 (Proc.devRef .tc main_v74_4)) (fun k => (((![V0 (Proc.devRef .tc main_v74_5), constantI S_ 32 0#32, constantI S_ 32 0#32, constantI S_ 32 0#32] : Fin 4 → (⟨S_, .i32⟩ : BufTy).Contents (Elt F))) k (Shape.Idx.first h_S_)).toInt) sliceFits_S32x16x4x128_S1x16x4x128 : (Proc.devRef .tc main_while0b_call8_v0 : DevRef τ sig).ty.Contents (Elt F)) = Cert.ReferenceIdeal.Step.b27 j s := by
  unfold Cert.ReferenceIdeal.Step.b27
  rw [← al_24 h, ← al_25 h, ← al_26 h, h.f_4, h.n_5]
  try rfl
set_option maxRecDepth 8192 in
theorem al_28 (h : Holds V0 s j) : (shapeCast S16x4x128 (Host.dynamicSlice S1x16x4x128 (V0 (Proc.devRef .tc main_v74_4)) (fun k => (((![V0 (Proc.devRef .tc main_v74_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128 : (Proc.devRef .tc main_while0b_v102 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (Host.dotGeneral dot_S16x4x64x128_S16x4x128x128_S16x4x64x128_3_2_2_3_01_01 none (shapeCast S16x4x64x128 (Host.dynamicSlice S1x16x4x64x128 (V0 (Proc.devRef .tc main_v74_1)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (V0 (Proc.devRef .tc main_v74_6)) : (Proc.devRef .tc main_while0b_v103 : DevRef τ sig).ty.Contents (Elt F)) = Cert.ReferenceIdeal.Step.b29 j s := by
  unfold Cert.ReferenceIdeal.Step.b29
  rw [← al_11 h, h.f_6]
  try rfl
set_option maxRecDepth 8192 in
theorem al_30 (h : Holds V0 s j) : (addf (shapeCast S16x4x64x128 (Host.dynamicSlice S1x16x4x64x128 (V0 (Proc.devRef .tc main_v74_0)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (Host.dotGeneral dot_S16x4x64x128_S16x4x128x128_S16x4x64x128_3_2_2_3_01_01 none (shapeCast S16x4x64x128 (Host.dynamicSlice S1x16x4x64x128 (V0 (Proc.devRef .tc main_v74_1)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (V0 (Proc.devRef .tc main_v74_6))) : (Proc.devRef .tc main_while0b_v104 : DevRef τ sig).ty.Contents (Elt F)) = Cert.ReferenceIdeal.Step.b30 j s := by
  unfold Cert.ReferenceIdeal.Step.b30
  rw [← al_5 h, ← al_29 h]
  try rfl
set_option maxRecDepth 8192 in
theorem al_31 (h : Holds V0 s j) : (broadcastInDim S16x4x128x1 ![0, 1, 2] bcast_S16x4x128_S16x4x128x1_0_1_2 (shapeCast S16x4x128 (Host.dynamicSlice S1x16x4x128 (V0 (Proc.devRef .tc main_v74_4)) (fun k => (((![V0 (Proc.devRef .tc main_v74_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128) : (Proc.devRef .tc main_while0b_v105 : DevRef τ sig).ty.Contents (Elt F)) = Cert.ReferenceIdeal.Step.b31 j s := by
  unfold Cert.ReferenceIdeal.Step.b31
  rw [← al_28 h]
  try rfl
set_option maxRecDepth 8192 in
theorem al_32 (h : Holds V0 s j) : (broadcastInDim S16x4x128x128 ![0, 1, 2, 3] bcast_S16x4x128x1_S16x4x128x128_0_1_2_3 (broadcastInDim S16x4x128x1 ![0, 1, 2] bcast_S16x4x128_S16x4x128x1_0_1_2 (shapeCast S16x4x128 (Host.dynamicSlice S1x16x4x128 (V0 (Proc.devRef .tc main_v74_4)) (fun k => (((![V0 (Proc.devRef .tc main_v74_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128)) : (Proc.devRef .tc main_while0b_v106 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (mulf (broadcastInDim S16x4x128x128 ![0, 1, 2, 3] bcast_S16x4x128x1_S16x4x128x128_0_1_2_3 (broadcastInDim S16x4x128x1 ![0, 1, 2] bcast_S16x4x128_S16x4x128x1_0_1_2 (shapeCast S16x4x128 (Host.dynamicSlice S1x16x4x128 (V0 (Proc.devRef .tc main_v74_4)) (fun k => (((![V0 (Proc.devRef .tc main_v74_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v74_6)) : (Proc.devRef .tc main_while0b_v107 : DevRef τ sig).ty.Contents (Elt F)) = Cert.ReferenceIdeal.Step.b33 j s := by
  unfold Cert.ReferenceIdeal.Step.b33
  rw [← al_32 h, h.f_6]
  try rfl
set_option maxRecDepth 8192 in
theorem al_34 (h : Holds V0 s j) : (Host.dotGeneral dot_S16x4x64x128_S16x4x64x128_S16x4x128x128_2_2_3_3_01_01 none (shapeCast S16x4x64x128 (Host.dynamicSlice S1x16x4x64x128 (V0 (Proc.devRef .tc main_v74_2)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (shapeCast S16x4x64x128 (Host.dynamicSlice S1x16x4x64x128 (V0 (Proc.devRef .tc main_v74_3)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) : (Proc.devRef .tc main_while0b_v108 : DevRef τ sig).ty.Contents (Elt F)) = Cert.ReferenceIdeal.Step.b34 j s := by
  unfold Cert.ReferenceIdeal.Step.b34
  rw [← al_17 h, ← al_23 h]
  try rfl
set_option maxRecDepth 8192 in
theorem al_35 (h : Holds V0 s j) : (addf (mulf (broadcastInDim S16x4x128x128 ![0, 1, 2, 3] bcast_S16x4x128x1_S16x4x128x128_0_1_2_3 (broadcastInDim S16x4x128x1 ![0, 1, 2] bcast_S16x4x128_S16x4x128x1_0_1_2 (shapeCast S16x4x128 (Host.dynamicSlice S1x16x4x128 (V0 (Proc.devRef .tc main_v74_4)) (fun k => (((![V0 (Proc.devRef .tc main_v74_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v74_6))) (Host.dotGeneral dot_S16x4x64x128_S16x4x64x128_S16x4x128x128_2_2_3_3_01_01 none (shapeCast S16x4x64x128 (Host.dynamicSlice S1x16x4x64x128 (V0 (Proc.devRef .tc main_v74_2)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (shapeCast S16x4x64x128 (Host.dynamicSlice S1x16x4x64x128 (V0 (Proc.devRef .tc main_v74_3)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128)) : (Proc.devRef .tc main_while0b_v109 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (broadcastInDim S1x16x4x64x128 ![1, 2, 3, 4] bcast_S16x4x64x128_S1x16x4x64x128_1_2_3_4 (addf (shapeCast S16x4x64x128 (Host.dynamicSlice S1x16x4x64x128 (V0 (Proc.devRef .tc main_v74_0)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (Host.dotGeneral dot_S16x4x64x128_S16x4x128x128_S16x4x64x128_3_2_2_3_01_01 none (shapeCast S16x4x64x128 (Host.dynamicSlice S1x16x4x64x128 (V0 (Proc.devRef .tc main_v74_1)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (V0 (Proc.devRef .tc main_v74_6)))) : (Proc.devRef .tc main_while0b_call9_v0 : DevRef τ sig).ty.Contents (Elt F)) = Cert.ReferenceIdeal.Step.b36 j s := by
  unfold Cert.ReferenceIdeal.Step.b36
  rw [← al_30 h]
  try rfl
set_option maxRecDepth 8192 in
theorem al_37 (h : Holds V0 s j) : (constantI S_ 32 0#32 : (Proc.devRef .tc main_while0b_call9_c : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call9_c_0 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call9_c_1 : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call9_c_2 : DevRef τ sig).ty.Contents (Elt F)) = Cert.ReferenceIdeal.Step.b40 j s := by
  unfold Cert.ReferenceIdeal.Step.b40
  rfl
set_option maxRecDepth 8192 in
theorem al_41 (h : Holds V0 s j) : (Host.dynamicUpdateSlice (V0 (Proc.devRef .tc main_v74_7)) (broadcastInDim S1x16x4x64x128 ![1, 2, 3, 4] bcast_S16x4x64x128_S1x16x4x64x128_1_2_3_4 (addf (shapeCast S16x4x64x128 (Host.dynamicSlice S1x16x4x64x128 (V0 (Proc.devRef .tc main_v74_0)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (Host.dotGeneral dot_S16x4x64x128_S16x4x128x128_S16x4x64x128_3_2_2_3_01_01 none (shapeCast S16x4x64x128 (Host.dynamicSlice S1x16x4x64x128 (V0 (Proc.devRef .tc main_v74_1)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (V0 (Proc.devRef .tc main_v74_6))))) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) updateFits_S32x16x4x64x128_S1x16x4x64x128 : (Proc.devRef .tc main_while0b_v110 : DevRef τ sig).ty.Contents (Elt F)) = Cert.ReferenceIdeal.Step.b41 j s := by
  unfold Cert.ReferenceIdeal.Step.b41
  rw [← al_36 h, ← al_37 h, ← al_38 h, ← al_39 h, ← al_40 h, h.f_7, h.n_5]
  try rfl

/-! One trip's step of the carried values is `step`, field by field; a counter steps to the next number. -/

theorem step_6 (h : Holds V0 s j) : step_main_v74_6 V0 = (step j s).main_v74_6 := by
  unfold step_main_v74_6 Cert.ReferenceIdeal.Step.step
  show id (addf (mulf (broadcastInDim S16x4x128x128 ![0, 1, 2, 3] bcast_S16x4x128x1_S16x4x128x128_0_1_2_3 (broadcastInDim S16x4x128x1 ![0, 1, 2] bcast_S16x4x128_S16x4x128x1_0_1_2 (shapeCast S16x4x128 (Host.dynamicSlice S1x16x4x128 (V0 (Proc.devRef .tc main_v74_4)) (fun k => (((![V0 (Proc.devRef .tc main_v74_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v74_6))) (Host.dotGeneral dot_S16x4x64x128_S16x4x64x128_S16x4x128x128_2_2_3_3_01_01 none (shapeCast S16x4x64x128 (Host.dynamicSlice S1x16x4x64x128 (V0 (Proc.devRef .tc main_v74_2)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (shapeCast S16x4x64x128 (Host.dynamicSlice S1x16x4x64x128 (V0 (Proc.devRef .tc main_v74_3)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128))) = _
  rw [al_35 h]
  try rfl
theorem step_7 (h : Holds V0 s j) : step_main_v74_7 V0 = (step j s).main_v74_7 := by
  unfold step_main_v74_7
  show id (Host.dynamicUpdateSlice (V0 (Proc.devRef .tc main_v74_7)) (broadcastInDim S1x16x4x64x128 ![1, 2, 3, 4] bcast_S16x4x64x128_S1x16x4x64x128_1_2_3_4 (addf (shapeCast S16x4x64x128 (Host.dynamicSlice S1x16x4x64x128 (V0 (Proc.devRef .tc main_v74_0)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (Host.dotGeneral dot_S16x4x64x128_S16x4x128x128_S16x4x64x128_3_2_2_3_01_01 none (shapeCast S16x4x64x128 (Host.dynamicSlice S1x16x4x64x128 (V0 (Proc.devRef .tc main_v74_1)) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128) shapeCasts_S1x16x4x64x128_S16x4x64x128) (V0 (Proc.devRef .tc main_v74_6))))) (fun k => (((![V0 (Proc.devRef .tc main_v74_5), constantI S_ 32 0#32, constantI S_ 32 0#32, constantI S_ 32 0#32, constantI S_ 32 0#32] : Fin 5 → (⟨S_, .i32⟩ : BufTy).Contents (Elt F))) k (Shape.Idx.first h_S_)).toInt) updateFits_S32x16x4x64x128_S1x16x4x64x128) = _
  exact (id_eq _).trans ((al_41 h).trans (Cert.ReferenceIdeal.Step.step_main_v74_7 j s).symm)
theorem step_5 (h : Holds V0 s j) : step_main_v74_5 V0 = constantI S_ 32 (BitVec.ofNat 32 (j + 1)) := by
  unfold step_main_v74_5
  rw [h.n_5]
  funext i
  show BitVec.ofNat 32 j + 1#32 = BitVec.ofNat 32 (j + 1)
  simp only [BitVec.ofNat_add]

set_option maxRecDepth 8192 in
theorem out_main_v97_holds (h : Holds V0 s j) {x_main_arg0 : (⟨S32768x4352, .f32⟩ : BufTy).Contents (Elt F)} (h_main_arg0 : V0 (Proc.devRef .tc main_arg0) = x_main_arg0) {x_main_arg1 : (⟨S1x128, .f32⟩ : BufTy).Contents (Elt F)} (h_main_arg1 : V0 (Proc.devRef .tc main_arg1) = x_main_arg1) : out_main_v97 V0 = Cert.ReferenceIdeal.Step.R_main_v97 s x_main_arg0 x_main_arg1 := by
  unfold out_main_v97 Cert.ReferenceIdeal.Step.R_main_v97
  rw [h.f_7, h_main_arg0, h_main_arg1]
  try rfl

/-- One trip keeps the valuation holding: `step` of the state, the same set-up values, the next number. -/
theorem holds_step (h : Holds V0 s j) : Holds (STEP V0) (step j s) (j + 1) where
  f_6 := (STEP_main_v74_6 V0).trans (step_6 h)
  f_7 := (STEP_main_v74_7 V0).trans (step_7 h)
  n_5 := (STEP_main_v74_5 V0).trans (step_5 h)
  f_0 := (STEP_main_v74_0 V0).trans h.f_0
  f_1 := (STEP_main_v74_1 V0).trans h.f_1
  f_2 := (STEP_main_v74_2 V0).trans h.f_2
  f_3 := (STEP_main_v74_3 V0).trans h.f_3
  f_4 := (STEP_main_v74_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v97) = Cert.ReferenceIdeal.Step.R_main_v97 (it c 32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 32
    ⟨(h c).1.trans (out_main_v97_holds hk (iter_main_arg0 m c 32) (iter_main_arg1 m c 32)), (h c).2.1, (h c).2.2.1, (h c).2.2.2⟩) (Value.run m ρ)

end Cert.ReferenceIdeal.HandStepRun

end
-- ==== Proof.Hgrn.RefVal.lean ====
/- The reference's loop over the chunks, read: the state and the rows it leaves are the recurrence's, and so is its result. -/
module

public import proofs.«01_k».proof.Proof.Hgrn.RefArr
public import proofs.«01_k».proof.Proof.Hgrn.StepRun
public import Idealize.ShloMosaic.Lib.DynamicIndex

@[expose] public section

set_option maxRecDepth 16384

noncomputable section

namespace Cert.HgrnRef

open Cert.Hgrn Cert.ReferenceIdeal Cert.ReferenceIdeal.Gen Cert.ReferenceIdeal.Step
open Idealize.ShloMosaic Idealize.ShloMosaic.TcCoe Idealize.ShloMosaic.Tactic
open Idealize.SL Idealize.SL.Sem

/-- A chunk's number, as the loop counts it. -/
theorem count_int : ∀ j : Fin 32, (BitVec.ofNat 32 j.val).toInt = (j.val : ℤ) := by decide +kernel

/-- The loop's slice of a chunk, of an array of chunks of matrices. -/
theorem slice5_at (x : S32x16x4x64x128.Idx → EReal) (start : Fin 5 → ℤ) (hf) (j : Fin 32)
    (hs : ∀ a : Fin 5, start a = ((![j.val, 0, 0, 0, 0] a : ℕ) : ℤ)) (b : Fin 16) (h : Fin 4) (i : Fin 64) (d : Fin 128) :
    Host.dynamicSlice S1x16x4x64x128 x start hf (ix5 0 b h i d) = x (ix5 j b h i d) := by
  rw [Host.dynamicSlice_eq_extractStridedSlice S1x16x4x64x128 x start ![j.val, 0, 0, 0, 0] hf ⟨rfl, fun a => by
    match a with
    | ⟨0, _⟩ => show j.val + 1 ≤ 32; omega
    | ⟨1, _⟩ => show 0 + 16 ≤ 16; omega
    | ⟨2, _⟩ => show 0 + 4 ≤ 4; omega
    | ⟨3, _⟩ => show 0 + 64 ≤ 64; omega
    | ⟨4, _⟩ => show 0 + 128 ≤ 128; omega⟩ hs]
  refine congrArg x (funext fun a => Fin.ext ?_)
  match a with
  | ⟨0, _⟩ => show j.val + 0 = j.val; omega
  | ⟨1, _⟩ => show 0 + b.val = b.val; omega
  | ⟨2, _⟩ => show 0 + h.val = h.val; omega
  | ⟨3, _⟩ => show 0 + i.val = i.val; omega
  | ⟨4, _⟩ => show 0 + d.val = d.val; omega

/-- The loop's slice of a chunk, of an array of chunks of rows. -/
theorem slice4_at (x : S32x16x4x128.Idx → EReal) (start : Fin 4 → ℤ) (hf) (j : Fin 32)
    (hs : ∀ a : Fin 4, start a = ((![j.val, 0, 0, 0] a : ℕ) : ℤ)) (b : Fin 16) (h : Fin 4) (d : Fin 128) :
    Host.dynamicSlice S1x16x4x128 x start hf (ix4 0 b h d) = x (ix4 j b h d) := by
  rw [Host.dynamicSlice_eq_extractStridedSlice S1x16x4x128 x start ![j.val, 0, 0, 0] hf ⟨rfl, fun a => by
    match a with
    | ⟨0, _⟩ => show j.val + 1 ≤ 32; omega
    | ⟨1, _⟩ => show 0 + 16 ≤ 16; omega
    | ⟨2, _⟩ => show 0 + 4 ≤ 4; omega
    | ⟨3, _⟩ => show 0 + 128 ≤ 128; omega⟩ hs]
  refine congrArg x (funext fun a => Fin.ext ?_)
  match a with
  | ⟨0, _⟩ => show j.val + 0 = j.val; omega
  | ⟨1, _⟩ => show 0 + b.val = b.val; omega
  | ⟨2, _⟩ => show 0 + h.val = h.val; omega
  | ⟨3, _⟩ => show 0 + d.val = d.val; omega

/-- The loop's write of a chunk: that chunk reads the written rows, every other one what it held. -/
theorem update_at (x : S32x16x4x64x128.Idx → EReal) (u : S1x16x4x64x128.Idx → EReal) (start : Fin 5 → ℤ) (hf) (j : Fin 32)
    (hs : ∀ a : Fin 5, start a = ((![j.val, 0, 0, 0, 0] a : ℕ) : ℤ)) (n : Fin 32) (b : Fin 16) (h : Fin 4) (i : Fin 64) (d : Fin 128) :
    Host.dynamicUpdateSlice x u start hf (ix5 n b h i d) = if n = j then u (ix5 0 b h i d) else x (ix5 n b h i d) := by
  rw [Host.dynamicUpdateSlice_eq_updateSlice x u start hf ![j.val, 0, 0, 0, 0] (fun a => by
    rw [hs a]
    match a with
    | ⟨0, _⟩ => show (min (max (j.val : ℤ) 0) ((32 - 1 : ℕ) : ℤ)).toNat = j.val; omega
    | ⟨1, _⟩ => rfl
    | ⟨2, _⟩ => rfl
    | ⟨3, _⟩ => rfl
    | ⟨4, _⟩ => rfl) ⟨rfl, fun a => by
    match a with
    | ⟨0, _⟩ => show j.val + 1 ≤ 32; omega
    | ⟨1, _⟩ => show 0 + 16 ≤ 16; omega
    | ⟨2, _⟩ => show 0 + 4 ≤ 4; omega
    | ⟨3, _⟩ => show 0 + 64 ≤ 64; omega
    | ⟨4, _⟩ => show 0 + 128 ≤ 128; omega⟩]
  unfold updateSlice
  by_cases hn : n = j
  · subst hn
    rw [if_pos rfl, dif_pos]
    · refine congrArg u (funext fun a => Fin.ext ?_)
      match a with
      | ⟨0, _⟩ => show n.val - n.val = 0; omega
      | ⟨1, _⟩ => show b.val - 0 = b.val; omega
      | ⟨2, _⟩ => show h.val - 0 = h.val; omega
      | ⟨3, _⟩ => show i.val - 0 = i.val; omega
      | ⟨4, _⟩ => show d.val - 0 = d.val; omega
    · intro a
      match a with
      | ⟨0, _⟩ => show n.val ≤ n.val ∧ n.val < n.val + 1; omega
      | ⟨1, _⟩ => show 0 ≤ b.val ∧ b.val < 0 + 16; omega
      | ⟨2, _⟩ => show 0 ≤ h.val ∧ h.val < 0 + 4; omega
      | ⟨3, _⟩ => show 0 ≤ i.val ∧ i.val < 0 + 64; omega
      | ⟨4, _⟩ => show 0 ≤ d.val ∧ d.val < 0 + 128; omega
  · rw [if_neg hn, dif_neg]
    intro hall
    have h0 := hall (0 : Fin 5)
    change j.val ≤ n.val ∧ n.val < j.val + 1 at h0
    exact hn (Fin.ext (by omega))

/-- The starts of the loop's slices and writes: the chunk's number, then zeros. -/
theorem start5 (j : Fin 32) (a : Fin 5) :
    ((![(constantI S_ 32 (BitVec.ofNat 32 j.val) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a (Shape.Idx.first h_S_)).toInt
      = ((![j.val, 0, 0, 0, 0] a : ℕ) : ℤ) := by
  match a with
  | ⟨0, _⟩ => exact count_int j
  | ⟨1, _⟩ => rfl
  | ⟨2, _⟩ => rfl
  | ⟨3, _⟩ => rfl
  | ⟨4, _⟩ => rfl

theorem start4 (j : Fin 32) (a : Fin 4) :
    ((![(constantI S_ 32 (BitVec.ofNat 32 j.val) : (⟨S_, .i32⟩ : BufTy).Contents (Elt Ideal)), constantI S_ 32 0#32, constantI S_ 32 0#32, constantI S_ 32 0#32] : Fin 4 → (⟨S_, .i32⟩ : BufTy).Contents (Elt Ideal)) a (Shape.Idx.first h_S_)).toInt
      = ((![j.val, 0, 0, 0] a : ℕ) : ℤ) := by
  match a with
  | ⟨0, _⟩ => exact count_int j
  | ⟨1, _⟩ => rfl
  | ⟨2, _⟩ => rfl
  | ⟨3, _⟩ => rfl

variable (j : Fin 32) (s : State Ideal)

theorem b4_at (b : Fin 16) (h : Fin 4) (i : Fin 64) (d : Fin 128) :
    (b4 j.val s : S1x16x4x64x128.Idx → EReal) (ix5 0 b h i d) = (s.main_v74_0 : S32x16x4x64x128.Idx → EReal) (ix5 j b h i d) := by
  unfold b4; exact slice5_at _ _ _ j (start5 j) b h i d
theorem b10_at (b : Fin 16) (h : Fin 4) (i : Fin 64) (d : Fin 128) :
    (b10 j.val s : S1x16x4x64x128.Idx → EReal) (ix5 0 b h i d) = (s.main_v74_1 : S32x16x4x64x128.Idx → EReal) (ix5 j b h i d) := by
  unfold b10; exact slice5_at _ _ _ j (start5 j) b h i d
theorem b16_at (b : Fin 16) (h : Fin 4) (i : Fin 64) (d : Fin 128) :
    (b16 j.val s : S1x16x4x64x128.Idx → EReal) (ix5 0 b h i d) = (s.main_v74_2 : S32x16x4x64x128.Idx → EReal) (ix5 j b h i d) := by
  unfold b16; exact slice5_at _ _ _ j (start5 j) b h i d
theorem b22_at (b : Fin 16) (h : Fin 4) (i : Fin 64) (d : Fin 128) :
    (b22 j.val s : S1x16x4x64x128.Idx → EReal) (ix5 0 b h i d) = (s.main_v74_3 : S32x16x4x64x128.Idx → EReal) (ix5 j b h i d) := by
  unfold b22; exact slice5_at _ _ _ j (start5 j) b h i d
theorem b27_at (b : Fin 16) (h : Fin 4) (d : Fin 128) :
    (b27 j.val s : S1x16x4x128.Idx → EReal) (ix4 0 b h d) = (s.main_v74_4 : S32x16x4x128.Idx → EReal) (ix4 j b h d) := by
  unfold b27; exact slice4_at _ _ _ j (start4 j) b h d

/-- A trip's next state. -/
theorem trip_s (b : Fin 16) (h : Fin 4) (d e : Fin 128) :
    ((step j.val s).main_v74_6 : S16x4x128x128.Idx → EReal) (ix4 b h d e)
      = (s.main_v74_4 : S32x16x4x128.Idx → EReal) (ix4 j b h d) * (s.main_v74_6 : S16x4x128x128.Idx → EReal) (ix4 b h d e)
        + ∑ x : Fin 64, (s.main_v74_2 : S32x16x4x64x128.Idx → EReal) (ix5 j b h x d) * (s.main_v74_3 : S32x16x4x64x128.Idx → EReal) (ix5 j b h x e) := by
  rw [step_main_v74_6]
  unfold b35 b34 b33 b32 b31 b28 b17 b23
  pointwise
  simp only [b16_at, b22_at, b27_at]

/-- A trip's rows: written at its chunk. -/
theorem trip_o (n : Fin 32) (b : Fin 16) (h : Fin 4) (i : Fin 64) (e : Fin 128) :
    ((step j.val s).main_v74_7 : S32x16x4x64x128.Idx → EReal) (ix5 n b h i e)
      = if n = j then (s.main_v74_0 : S32x16x4x64x128.Idx → EReal) (ix5 j b h i e)
          + ∑ x : Fin 128, (s.main_v74_1 : S32x16x4x64x128.Idx → EReal) (ix5 j b h i x) * (s.main_v74_6 : S16x4x128x128.Idx → EReal) (ix4 b h x e)
        else (s.main_v74_7 : S32x16x4x64x128.Idx → EReal) (ix5 n b h i e) := by
  rw [step_main_v74_7]
  unfold b41
  refine (update_at _ _ _ _ j (start5 j) n b h i e).trans ?_
  congr 1
  unfold b36 b30 b29 b5 b11
  pointwise
  simp only [b4_at, b10_at]

variable (m : (ℓ : Loc nD τ sig) → Buf (Elt Ideal) ℓ)

/-- The loop's state after `n` trips. -/
def it (c : Dev nD) : ℕ → State Ideal
  | 0 => HandStepRun.initState m c
  | n + 1 => step n (it c n)

/-- The trips change none of the arrays they slice. -/
theorem it_kept (c : Dev nD) (n : ℕ) :
    (it m c n).main_v74_0 = A_main_v66 (F := Ideal) (m ((c.tc : Thread nD τ).loc main_arg0)) (m ((c.tc : Thread nD τ).loc main_arg2)) ∧ (it m c n).main_v74_1 = A_main_v67 (F := Ideal) (m ((c.tc : Thread nD τ).loc main_arg0)) (m ((c.tc : Thread nD τ).loc main_arg2))
      ∧ (it m c n).main_v74_2 = A_main_v68 (F := Ideal) (m ((c.tc : Thread nD τ).loc main_arg0)) (m ((c.tc : Thread nD τ).loc main_arg2)) ∧ (it m c n).main_v74_3 = A_main_v69 (F := Ideal) (m ((c.tc : Thread nD τ).loc main_arg0)) (m ((c.tc : Thread nD τ).loc main_arg2))
      ∧ (it m c n).main_v74_4 = A_main_v72 (F := Ideal) (m ((c.tc : Thread nD τ).loc main_arg0)) (m ((c.tc : Thread nD τ).loc main_arg2)) := by
  induction n with
  | zero => exact ⟨rfl, rfl, rfl, rfl, rfl⟩
  | succ n ih => exact ih

/-- The projections a device is launched with. -/
def argP (c : Dev nD) (R : Fin 32768) (C : Fin 4352) : EReal := (m ((c.tc : Thread nD τ).loc main_arg0) : S32768x4352.Idx → EReal) (ix2 R C)
/-- The head norm's gain a device is launched with. -/
def argG (c : Dev nD) (e : Fin 128) : EReal := (m ((c.tc : Thread nD τ).loc main_arg1) : S1x128.Idx → EReal) (ix2 0 e)
/-- The bounds' logits a device is launched with. -/
def argL (c : Dev nD) (a : Fin 2) (b : Fin 512) : EReal := (m ((c.tc : Thread nD τ).loc main_arg2) : S2x512.Idx → EReal) (ix2 a b)

/-- The loop's state after `n` trips is the recurrence's state before chunk `n`, batch by batch. -/
theorem it_state (c : Dev nD) (n : ℕ) (hn : n ≤ 32) (b : Fin 16) (h : Fin 4) (d e : Fin 128) :
    ((it m c n).main_v74_6 : S16x4x128x128.Idx → EReal) (ix4 b h d e)
      = state (lower (argL m c)) (chunk (argP m c) 1 b.val) (chunk (argP m c) 2 b.val) n h d e := by
  induction n generalizing h d e with
  | zero =>
    show (K_main_v65 (F := Ideal) : S16x4x128x128.Idx → EReal) (ix4 b h d e) = 0
    unfold K_main_v65 K_main_cst_9
    pointwise
  | succ n ih =>
    obtain ⟨h0, h1, h2, h3, h4⟩ := it_kept m c n
    refine (trip_s ⟨n, hn⟩ (it m c n) b h d e).trans ?_
    rw [h2, h3, h4, ih (by omega)]
    show _ * _ + _ = next _ _ _ _ h d e
    unfold next
    rw [loop_d]
    refine congrArg _ (Finset.sum_congr rfl fun x _ => ?_)
    rw [loop_k, loop_v]
    rfl

/-- The rows the trips so far have written. -/
theorem it_rows (c : Dev nD) (n : ℕ) (hn : n ≤ 32) (k : Fin 32) (hk : k.val < n) (b : Fin 16) (h : Fin 4) (i : Fin 64) (e : Fin 128) :
    ((it m c n).main_v74_7 : S32x16x4x64x128.Idx → EReal) (ix5 k b h i e) = pre (argP m c) (argL m c) b.val k.val h i e := by
  induction n with
  | zero => exact absurd hk (Nat.not_lt_zero _)
  | succ n ih =>
    refine (trip_o ⟨n, hn⟩ (it m c n) k b h i e).trans ?_
    by_cases he : k = ⟨n, hn⟩
    · obtain ⟨h0, h1, h2, h3, h4⟩ := it_kept m c n
      subst he
      rw [if_pos rfl, h0, h1]
      unfold pre row
      rw [loop_i]
      refine congrArg _ (Finset.sum_congr rfl fun x _ => ?_)
      rw [it_state m c n (by omega)]
      rw [loop_q]
      rfl
    · rw [if_neg he]
      exact ih (by omega) (by have : k.val ≠ n := fun h => he (Fin.ext h); omega)

/-- The rows a batch at a time, heads apart. -/
theorem rows_at (x : S32x16x4x64x128.Idx → EReal) (b : Fin 16) (r : Fin 2048) (h : Fin 4) (e : Fin 128) :
    shapeCast S16x2048x4x128 (transpose S16x32x64x4x128 [0, 2, 3, 1, 4] (transpose S16x4x32x64x128 [1, 2, 0, 3, 4] x transposes_S32x16x4x64x128_S16x4x32x64x128_1_2_0_3_4) transposes_S16x4x32x64x128_S16x32x64x4x128_0_2_3_1_4) shapeCasts_S16x32x64x4x128_S16x2048x4x128 (ix4 b r h e)
      = x (ix5 ⟨r.val / 64, by omega⟩ b h ⟨r.val % 64, by omega⟩ e) := by
  pointwise

/-- The head norm of rows, heads apart. -/
def normed (x : FVec Ideal S16x2048x4x128 .f32) (g : FVec Ideal S1x128 .f32) : FVec Ideal S16x2048x4x128 .f32 :=
  mulf (mulf x (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf x x) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x1x128_S16x2048x4x128_0_1_2_3 (broadcastInDim S1x1x1x128 ![3] bcast_S128_S1x1x1x128_3 (shapeCast _ g shapeCasts_S1x128_S128)))

theorem normed_at (x : FVec Ideal S16x2048x4x128 .f32) (g : FVec Ideal S1x128 .f32) (b : Fin 16) (r : Fin 2048) (h : Fin 4) (e : Fin 128) :
    (normed x g : S16x2048x4x128.Idx → EReal) (ix4 b r h e)
      = (x (ix4 b r h e) : EReal) * Ideal.rsqrt (Ideal.div (∑ y : Fin 128, (x (ix4 b r h y) : EReal) * x (ix4 b r h y)) (Ideal.ofBits FTy.f32 1124073472#32) + Ideal.ofBits FTy.f32 897988541#32) * (g (ix2 0 e) : EReal) := by
  unfold normed
  pointwise

/-- The output gate of rows, a batch at a time. -/
def gated (p : FVec Ideal S32768x4352 .f32) : FVec Ideal S16x2048x512 .f32 :=
  mulf (extractStridedSlice S16x2048x512 ![0, 0, 1536] (shapeCast _ p shapeCasts_S32768x4352_S16x2048x4352) slices_S16x2048x4352_S16x2048x512_0_0_1536) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 1536] (shapeCast _ p shapeCasts_S32768x4352_S16x2048x4352) slices_S16x2048x4352_S16x2048x512_0_0_1536)))))

theorem gated_at (p : FVec Ideal S32768x4352 .f32) (b : Fin 16) (r : Fin 2048) (c : Fin 512) :
    (gated p : S16x2048x512.Idx → EReal) (ix3 b r c)
      = (p (ix2 ⟨b.val * 2048 + r.val, by omega⟩ ⟨1536 + c.val, by omega⟩) : EReal) * Ideal.logistic (p (ix2 ⟨b.val * 2048 + r.val, by omega⟩ ⟨1536 + c.val, by omega⟩)) := by
  unfold gated
  pointwise
  rfl

/-- Heads joined to channels. -/
theorem join_at (x : S16x2048x4x128.Idx → EReal) (b : Fin 16) (r : Fin 2048) (c : Fin 512) :
    shapeCast S16x2048x512 x shapeCasts_S16x2048x4x128_S16x2048x512 (ix3 b r c) = x (ix4 b r ⟨c.val / 128, by omega⟩ ⟨c.val % 128, by omega⟩) := by
  pointwise

/-- Batches joined. -/
theorem flat_at (x : S16x2048x512.Idx → EReal) (R : Fin 32768) (C : Fin 512) :
    shapeCast S32768x512 x shapeCasts_S16x2048x512_S32768x512 (ix2 R C) = x (ix3 ⟨R.val / 2048, by omega⟩ ⟨R.val % 2048, by omega⟩ C) := by
  pointwise

/-- The reference's result at an index: the recurrence's output at the index's batch, chunk, row of the chunk, head and channel. -/
theorem reference_value (c : Dev nD) (R : Fin 32768) (C : Fin 512) :
    (R_main_v97 (it m c 32) (m ((c.tc : Thread nD τ).loc main_arg0)) (m ((c.tc : Thread nD τ).loc main_arg1)) : S32768x512.Idx → EReal) (ix2 R C)
      = out (argP m c) (argG m c) (argL m c) (R.val / 2048) (R.val % 2048 / 64) ⟨C.val / 128, by omega⟩ ⟨R.val % 64, by omega⟩ ⟨C.val % 128, by omega⟩ := by
  have hi : (⟨R.val % 2048 % 64, by omega⟩ : Fin 64) = ⟨R.val % 64, by omega⟩ := Fin.ext (by show R.val % 2048 % 64 = R.val % 64; omega)
  have hy : ∀ e : Fin 128, shapeCast S16x2048x4x128 (transpose S16x32x64x4x128 [0, 2, 3, 1, 4] (transpose S16x4x32x64x128 [1, 2, 0, 3, 4] (it m c 32).main_v74_7 transposes_S32x16x4x64x128_S16x4x32x64x128_1_2_0_3_4) transposes_S16x4x32x64x128_S16x32x64x4x128_0_2_3_1_4) shapeCasts_S16x32x64x4x128_S16x2048x4x128 (ix4 ⟨R.val / 2048, by omega⟩ ⟨R.val % 2048, by omega⟩ ⟨C.val / 128, by omega⟩ e)
      = pre (argP m c) (argL m c) (R.val / 2048) (R.val % 2048 / 64) ⟨C.val / 128, by omega⟩ ⟨R.val % 64, by omega⟩ e := fun e => by
    rw [rows_at, it_rows m c 32 le_rfl _ (Fin.isLt _), hi]
  have hc : (m ((c.tc : Thread nD τ).loc main_arg0) : S32768x4352.Idx → EReal) (ix2 ⟨R.val / 2048 * 2048 + R.val % 2048, by omega⟩ ⟨1536 + C.val, by omega⟩)
      = chunk (argP m c) 3 (R.val / 2048) (R.val % 2048 / 64) ⟨R.val % 64, by omega⟩ (ch ⟨C.val / 128, by omega⟩ ⟨C.val % 128, by omega⟩) := by
    refine (chunk_eq _ 3 ⟨R.val / 2048, by omega⟩ ⟨C.val / 128, by omega⟩ ⟨R.val % 2048 / 64, by omega⟩ ⟨R.val % 64, by omega⟩ ⟨C.val % 128, by omega⟩ _ _ ?_ ?_)
    · show R.val / 2048 * 2048 + R.val % 2048 = R.val / 2048 * 2048 + (R.val % 2048 / 64 * 64 + R.val % 64); omega
    · show 1536 + C.val = 512 * 3 + (C.val / 128 * 128 + C.val % 128); omega
  have hR : R_main_v97 (it m c 32) (m ((c.tc : Thread nD τ).loc main_arg0)) (m ((c.tc : Thread nD τ).loc main_arg1))
      = shapeCast S32768x512 (mulf (shapeCast S16x2048x512 (normed (shapeCast S16x2048x4x128 (transpose S16x32x64x4x128 [0, 2, 3, 1, 4] (transpose S16x4x32x64x128 [1, 2, 0, 3, 4] (it m c 32).main_v74_7 transposes_S32x16x4x64x128_S16x4x32x64x128_1_2_0_3_4) transposes_S16x4x32x64x128_S16x32x64x4x128_0_2_3_1_4) shapeCasts_S16x32x64x4x128_S16x2048x4x128) (m ((c.tc : Thread nD τ).loc main_arg1))) shapeCasts_S16x2048x4x128_S16x2048x512) (gated (m ((c.tc : Thread nD τ).loc main_arg0)))) shapeCasts_S16x2048x512_S32768x512 := by
    unfold R_main_v97 normed gated
    rfl
  rw [hR, flat_at]
  refine (congrArg₂ (fun a b : EReal => a * b) ((join_at _ _ _ _).trans (normed_at _ _ _ _ _ _)) (gated_at _ _ _ _)).trans ?_
  simp only [hy]
  rw [hc]
  rfl
end Cert.HgrnRef
-- ==== Proof.InProj.Block.lean ====
/- What one grid point of the input projection stores, as a term of the blocks it reads: the first point of a row block
   stores the normed rows in the scratch buffer and multiplies them, the second multiplies what the scratch holds. -/
module

public import proofs.«01_k».proof.Proof.Gen.Kernel3Ideal.Frame
public import Idealize.ShloMosaic.Lib.Pipeline.Value

@[expose] public section

set_option maxRecDepth 16384

noncomputable section

namespace Cert.InProj

open Idealize.ShloMosaic Idealize.SL.Sem Cert.Kernel3Ideal Cert.Kernel3Ideal.Gen

variable {F : FTy → Type} [FloatOps F]

/-- The offsets of a load or store of a whole matrix. -/
theorem hz : (![0, 0] : Fin 2 → Nat) = fun _ => 0 := by decide

/-- A row block's first point stores the product of its normed rows with the weights' columns. -/
theorem out_A (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x2176 .bf16) (h4 : a4.IsWhole)
    (a5 : Memref sig .tc .vmem S1024x2176 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x2176 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero _ hz]
  simp only [View.readAt_eq_ld, h2.read_unread, h3.read_unread, h4.read_unread, View.ld_unit_zero (S := S1024x1024) hz, View.ld_unit_zero (S := S1x1024) hz, View.ld_unit_zero (S := S1024x2176) hz]

/-- A row block's first point leaves its normed rows in the scratch buffer. -/
theorem scr_A (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x2176 .bf16) (h4 : a4.IsWhole)
    (a5 : Memref sig .tc .vmem S1024x2176 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x2176 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

/-- A row block's second point multiplies the rows the scratch buffer holds. -/
theorem out_B (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x2176 .bf16) (h4 : a4.IsWhole)
    (a5 : Memref sig .tc .vmem S1024x2176 .f32) (h5 : a5.IsWhole) (a6 : Memref sig .tc .vmem S1024x1024 .bf16) (h6 : a6.IsWhole)
    (hc : ¬cond0_0 i) (x0 : Vec F S1024x1024 .f32) (x1 : Vec F S1x1024 .f32) (x2 : Vec F S1024x2176 .bf16) (s : Vec F S1024x1024 .bf16) :
    out0_B_3 c i a2 h2 a3 h3 a4 h4 a5 h5 a6 h6 hc x0 x1 x2 s = k0_pay2 s x2 := by
  unfold out0_B_3
  rw [View.read_writes_eq_canon _ _ _ (cover0_B_3 c i a2 h2 a3 h3 a4 h4 a5 h5 a6 h6 hc x0 x1 x2 s)]
  unfold kernelRun0_B
  dsimp only
  sl_unfold_words
  rw [View.canon_unit_zero hz]
  simp only [View.readAt_eq_ld, h4.read_unread, h6.read_unread, View.ld_unit_zero (S := S1024x1024) hz, View.ld_unit_zero (S := S1024x2176) hz]

end Cert.InProj

end
-- ==== Proof.Layer.Spec.lean ====
/- The layer's row functions over the extended reals that the input projection and the merge share: a row normed by its
   root mean square and scaled by a gain, and a row against a column of weights. -/
module

public import Idealize.ShloMosaic.Lib.Pointwise

@[expose] public section

noncomputable section

namespace Cert.Layer

open Idealize.ShloMosaic

/-- Row `x` over its root mean square, times the gain `g`. -/
def normed (x g : Fin 1024 → EReal) (k : Fin 1024) : EReal :=
  x k * Ideal.rsqrt (Ideal.div (∑ j, x j * x j) (Ideal.ofBits FTy.f32 0x44800000#32) + Ideal.ofBits FTy.f32 0x358637BD#32) * g k

/-- A row against a column. -/
def dotAt {n : ℕ} (h w : Fin n → EReal) : EReal := ∑ k, h k * w k

/-- Row `R` of the 32768 rows the 16 batches of 2048 make. -/
def rows (x : Fin 16 → Fin 2048 → Fin 1024 → EReal) (R : Fin 32768) (k : Fin 1024) : EReal :=
  x ⟨R.val / 2048, by omega⟩ ⟨R.val % 2048, by omega⟩ k

/-- The input projection: row `R` normed, against column `C` of the weights. -/
def proj (x : Fin 16 → Fin 2048 → Fin 1024 → EReal) (g : Fin 1024 → EReal) (w : Fin 1024 → Fin 6400 → EReal)
    (R : Fin 32768) (C : Fin 6400) : EReal :=
  dotAt (normed (rows x R) g) (fun k => w k C)

/-- What a row's two branches add up to: each branch's output against its weights, gated by its own columns of the
    input projection of the normed row `h`. -/
def mixed (h : Fin 1024 → EReal) (w : Fin 1024 → Fin 6400 → EReal) (ya : Fin 512 → EReal) (yb : Fin 256 → EReal)
    (wa : Fin 512 → Fin 1024 → EReal) (wb : Fin 256 → Fin 1024 → EReal) (k : Fin 1024) : EReal :=
  Ideal.logistic (dotAt h (fun j => w j ⟨4352 + k.val, by omega⟩)) * dotAt ya (fun j => wa j k)
    + Ideal.logistic (dotAt h (fun j => w j ⟨5376 + k.val, by omega⟩)) * dotAt yb (fun j => wb j k)

/-- The residual row: the layer's input plus the branches against the output weights. -/
def residual (x : Fin 1024 → EReal) (y : Fin 1024 → EReal) (wo : Fin 1024 → Fin 1024 → EReal) (k : Fin 1024) : EReal :=
  x k + dotAt y (fun j => wo j k)

/-- The queries: the normed residual row against the query weights. -/
def queries (h : Fin 1024 → EReal) (wq : Fin 1024 → Fin 1024 → EReal) (k : Fin 1024) : EReal := dotAt h (fun j => wq j k)

end Cert.Layer

end
-- ==== Proof.InProj.Pay.lean ====
/- The input projection at an index, over the extended reals: the kernel's blocks. -/
module

public import proofs.«01_k».proof.Proof.Gen.Kernel3Ideal.Skeleton
public import proofs.«01_k».proof.Proof.Layer.Spec

@[expose] public section

set_option maxRecDepth 16384

noncomputable section

namespace Cert.InProj

open Idealize.ShloMosaic Cert.Kernel3Ideal Cert.Kernel3Ideal.Gen Cert.Layer

/-- The scratch buffer's rows are normed rows. -/
theorem pay1_at (x : FVec Ideal S1024x1024 .f32) (g : FVec Ideal S1x1024 .f32) (r k : Fin 1024) :
    (k0_pay1 (F := Ideal) x g : S1024x1024.Idx → EReal) (ix2 r k) = normed (fun j => x (ix2 r j)) (fun j => g (ix2 0 j)) k := by
  unfold k0_pay1
  pointwise
  rfl

/-- A block of the product. -/
theorem pay2_at (h : FVec Ideal S1024x1024 .bf16) (w : FVec Ideal S1024x2176 .bf16) (r : Fin 1024) (a : Fin 2176) :
    (k0_pay2 (F := Ideal) h w : S1024x2176.Idx → EReal) (ix2 r a) = dotAt (fun k => h (ix2 r k)) (fun k => w (ix2 k a)) := by
  unfold k0_pay2
  pointwise
  rfl

end Cert.InProj

end
-- ==== Proof.Layer.Reads.lean ====
/- The host's reshapes of the layer's arguments, at an index: batches joined to rows, and the leading axis of length one
   of a gain or of weights dropped. -/
module

public import Idealize.ShloMosaic.Lib.Pointwise

@[expose] public section

set_option maxRecDepth 16384

noncomputable section

namespace Cert.Layer

open Idealize.ShloMosaic

/-- The layer's input: 16 batches of 2048 rows of width 1024. -/
abbrev Batches : Shape := ⟨3, ![16, 2048, 1024]⟩
/-- All rows of all batches, one under another. -/
abbrev Rows : Shape := ⟨2, ![32768, 1024]⟩
/-- A norm's gain. -/
abbrev Gain : Shape := ⟨1, ![1024]⟩
/-- A norm's gain with its layer axis. -/
abbrev GainRow : Shape := ⟨2, ![1, 1024]⟩

/-- Batches joined. -/
theorem join_at (x : Batches.Idx → EReal) (h : Batches.ShapeCasts Rows) (R : Fin 32768) (k : Fin 1024) :
    shapeCast Rows x h (ix2 R k) = x (ix3 ⟨R.val / 2048, by omega⟩ ⟨R.val % 2048, by omega⟩ k) := by
  pointwise

/-- A gain of one row, as a vector. -/
theorem gain_at (g : GainRow.Idx → EReal) (h : GainRow.ShapeCasts Gain) (k : Fin 1024) : shapeCast Gain g h (ix1 k) = g (ix2 0 k) := by
  pointwise

/-- A gain of one row, as a vector and a row again. -/
theorem gainRow_at (g : GainRow.Idx → EReal) (h : GainRow.ShapeCasts Gain) (h' : Gain.ShapeCasts GainRow) (k : Fin 1024) :
    shapeCast GainRow (shapeCast Gain g h) h' (ix2 0 k) = g (ix2 0 k) := by
  pointwise

/-- Weights of the input projection as a matrix. -/
theorem wide_at (w : Shape.Idx ⟨3, ![1, 1024, 6400]⟩ → EReal) (h : Shape.ShapeCasts ⟨3, ![1, 1024, 6400]⟩ ⟨2, ![1024, 6400]⟩) (k : Fin 1024) (a : Fin 6400) :
    shapeCast ⟨2, ![1024, 6400]⟩ w h (ix2 k a) = w (ix3 0 k a) := by
  pointwise

/-- Square weights as a matrix. -/
theorem square_at (w : Shape.Idx ⟨3, ![1, 1024, 1024]⟩ → EReal) (h : Shape.ShapeCasts ⟨3, ![1, 1024, 1024]⟩ ⟨2, ![1024, 1024]⟩) (k a : Fin 1024) :
    shapeCast ⟨2, ![1024, 1024]⟩ w h (ix2 k a) = w (ix3 0 k a) := by
  pointwise

/-- The recurrence's branch weights as a matrix. -/
theorem branchA_at (w : Shape.Idx ⟨3, ![1, 512, 1024]⟩ → EReal) (h : Shape.ShapeCasts ⟨3, ![1, 512, 1024]⟩ ⟨2, ![512, 1024]⟩) (k : Fin 512) (a : Fin 1024) :
    shapeCast ⟨2, ![512, 1024]⟩ w h (ix2 k a) = w (ix3 0 k a) := by
  pointwise

/-- The attention's branch weights as a matrix. -/
theorem branchB_at (w : Shape.Idx ⟨3, ![1, 256, 1024]⟩ → EReal) (h : Shape.ShapeCasts ⟨3, ![1, 256, 1024]⟩ ⟨2, ![256, 1024]⟩) (k : Fin 256) (a : Fin 1024) :
    shapeCast ⟨2, ![256, 1024]⟩ w h (ix2 k a) = w (ix3 0 k a) := by
  pointwise

end Cert.Layer

end
-- ==== Proof.InProj.KernelVal.lean ====
/- The input projection's kernel: the array it leaves, at every index, as the layer's projection of the arguments. -/
module

public import proofs.«01_k».proof.Proof.InProj.Block
public import proofs.«01_k».proof.Proof.InProj.Pay
public import proofs.«01_k».proof.Proof.Layer.Reads
public import Idealize.ShloMosaic.Lib.Pipeline.ValueKit
public import Idealize.ShloMosaic.Lib.Claim

@[expose] public section

set_option maxRecDepth 16384

noncomputable section

namespace Cert.InProj

open Idealize.ShloMosaic Idealize.SL.Sem Idealize.ShloMosaic.TcCoe Cert.Kernel3Ideal Cert.Kernel3Ideal.Gen Cert.Layer

variable (m : (ℓ : Loc nD τ sig) → Buf (Elt Ideal) ℓ)

/-- The activations a device is launched with. -/
def argX (c : Dev nD) (b : Fin 16) (r : Fin 2048) (k : Fin 1024) : EReal := (m ((c : Thread nD τ).loc main_arg0) : S16x2048x1024.Idx → EReal) (ix3 b r k)
/-- The norm's gain a device is launched with. -/
def argG (c : Dev nD) (k : Fin 1024) : EReal := (m ((c : Thread nD τ).loc main_arg1) : S1x1024.Idx → EReal) (ix2 0 k)
/-- The weights a device is launched with. -/
def argW (c : Dev nD) (k : Fin 1024) (a : Fin 6400) : EReal := (m ((c : Thread nD τ).loc main_arg2) : S1x1024x6400.Idx → EReal) (ix3 0 k a)

/-- The weights' first 4352 columns, rounded. -/
theorem columns_at (w : S1x1024x6400.Idx → EReal) (k : Fin 1024) (a : Fin 4352) :
    (truncf (F := Ideal) .bf16 (extractStridedSlice S1024x4352 ![0, 0] (shapeCast S1024x6400 w shapeCasts_S1x1024x6400_S1024x6400) slices_S1024x6400_S1024x4352_0_0) bitsLt_bf16_f32 : S1024x4352.Idx → EReal) (ix2 k a)
      = w (ix3 0 k ⟨a.val, by omega⟩) := by
  pointwise

/-- The rows' buffer when the kernel starts: the batches, one after another. -/
theorem V_rows (c : Dev nD) (R : Fin 32768) (k : Fin 1024) : (V m c main_v0 : S32768x1024.Idx → EReal) (ix2 R k) = rows (argX m c) R k := by
  have h : V m c main_v0 = shapeCast S32768x1024 (m ((c : Thread nD τ).loc main_arg0) : S16x2048x1024.Idx → EReal) shapeCasts_S16x2048x1024_S32768x1024 := by
    unfold_abbrev_sides
    after_results
    rfl
  rw [h]
  exact join_at _ _ R k

/-- The gain's buffer when the kernel starts: the gain, reshaped to a row and back. -/
theorem V_gain (c : Dev nD) (k : Fin 1024) : (V m c main_v5 : S1x1024.Idx → EReal) (ix2 0 k) = argG m c k := by
  have h : V m c main_v5 = shapeCast S1x1024 (shapeCast S1024 (m ((c : Thread nD τ).loc main_arg1) : S1x1024.Idx → EReal) shapeCasts_S1x1024_S1024) shapeCasts_S1024_S1x1024 := by
    unfold_abbrev_sides
    after_results
    rfl
  rw [h]
  exact gainRow_at _ _ _ k

/-- The weights' buffer when the kernel starts: the first 4352 columns. -/
theorem V_weights (c : Dev nD) (k : Fin 1024) (a : Fin 4352) : (V m c main_v4 : S1024x4352.Idx → EReal) (ix2 k a) = argW m c k ⟨a.val, by omega⟩ := by
  have h : V m c main_v4 = truncf (F := Ideal) .bf16 (extractStridedSlice S1024x4352 ![0, 0] (shapeCast S1024x6400 (m ((c : Thread nD τ).loc main_arg2) : S1x1024x6400.Idx → EReal) shapeCasts_S1x1024x6400_S1024x6400) slices_S1024x6400_S1024x4352_0_0) bitsLt_bf16_f32 := by
    unfold_abbrev_sides
    after_results
    rfl
  rw [h]
  exact columns_at _ k a

/-- The rows of grid point `t`'s block: rows `1024 (t / 2)` on. -/
theorem block_0 (c : Dev nD) (t : Fin cfg0.N) (r k : Fin 1024) (R : Fin 32768) (hR : R.val = 1024 * (t.val / 2) + r.val) :
    iblk m c 0 t (ix2 r k) = rows (argX m c) R k := by
  have hi : win0_0.index t (0 : Fin 2) = t.val / 2 ∧ win0_0.index t (1 : Fin 2) = 0 :=
    (by decide +kernel : ∀ t : Fin grid0.N, win0_0.index t (0 : Fin 2) = t.val / 2 ∧ win0_0.index t (1 : Fin 2) = 0) t
  unfold iblk
  rw [View.read_apply, cast_eq]
  refine Eq.trans (congrArg (V m c main_v0) (funext fun x => Fin.ext ?_)) (V_rows m c R k)
  match x with
  | ⟨0, _⟩ => show win0_0.index t (0 : Fin 2) * 1024 + 1 * r.val = R.val; omega
  | ⟨1, _⟩ => show win0_0.index t (1 : Fin 2) * 1024 + 1 * k.val = k.val; omega

/-- The gain, as every grid point reads it. -/
theorem block_1 (c : Dev nD) (t : Fin cfg0.N) (k : Fin 1024) : iblk m c 1 t (ix2 0 k) = argG m c k := by
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  unfold iblk
  rw [View.read_apply, cast_eq]
  refine Eq.trans (congrArg (V m c main_v5) (funext fun x => Fin.ext ?_)) (V_gain m c k)
  match x with
  | ⟨0, _⟩ => show win0_1.index t (0 : Fin 2) * 1 + 1 * 0 = 0; omega
  | ⟨1, _⟩ => show win0_1.index t (1 : Fin 2) * 1024 + 1 * k.val = k.val; omega

/-- The weights grid point `t` reads: columns `2176 (t mod 2)` on. -/
theorem block_2 (c : Dev nD) (t : Fin cfg0.N) (k : Fin 1024) (a : Fin 2176) (C : Fin 4352) (hC : C.val = 2176 * (t.val % 2) + a.val) :
    iblk m c 2 t (ix2 k a) = argW m c k ⟨C.val, by omega⟩ := by
  have hi : win0_2.index t (0 : Fin 2) = 0 ∧ win0_2.index t (1 : Fin 2) = t.val % 2 :=
    (by decide +kernel : ∀ t : Fin grid0.N, win0_2.index t (0 : Fin 2) = 0 ∧ win0_2.index t (1 : Fin 2) = t.val % 2) t
  unfold iblk
  rw [View.read_apply, cast_eq]
  refine Eq.trans (congrArg (V m c main_v4) (funext fun x => Fin.ext ?_)) (V_weights m c k C)
  match x with
  | ⟨0, _⟩ => show win0_2.index t (0 : Fin 2) * 1024 + 1 * k.val = k.val; omega
  | ⟨1, _⟩ => show win0_2.index t (1 : Fin 2) * 2176 + 1 * a.val = C.val; omega

/-- The scratch buffer after grid point `t` holds the normed rows of `t`'s row block. -/
theorem scratch_at (c : Dev nD) (t : Fin cfg0.N) (h0 : t.val % 2 = 0) (r k : Fin 1024) (R : Fin 32768) (hR : R.val = 1024 * (t.val / 2) + r.val) :
    ((outsAt0 m c t.val t.isLt).2 : S1024x1024.Idx → EReal) (ix2 r k) = normed (rows (argX m c) R) (argG m c) k := by
  rw [outsAt0_A m c t h0]
  dsimp only
  rw [scr_A, pay1_at]
  congr 1
  · funext j; exact block_0 m c t r j R hR
  · funext j; exact block_1 m c t j

/-- The block grid point `t` writes back holds its rows' projections. -/
theorem point_at (c : Dev nD) (t : Fin cfg0.N) (r : Fin 1024) (a : Fin 2176) (R : Fin 32768) (C : Fin 4352)
    (hR : R.val = 1024 * (t.val / 2) + r.val) (hC : C.val = 2176 * (t.val % 2) + a.val) :
    ((outsAt0 m c t.val t.isLt).1 : S1024x2176.Idx → EReal) (ix2 r a) = proj (argX m c) (argG m c) (argW m c) R ⟨C.val, by omega⟩ := by
  unfold proj
  by_cases h0 : t.val % 2 = 0
  · rw [outsAt0_A m c t h0]
    dsimp only
    rw [out_A, pay2_at]
    congr 1
    · funext k
      rw [pay1_at]
      congr 1
      · funext j; exact block_0 m c t r j R hR
      · funext j; exact block_1 m c t j
    · funext k; exact block_2 m c t k a C hC
  · rw [outsAt0_B m c t h0]
    dsimp only
    rw [out_B, pay2_at]
    congr 1
    · funext k
      exact scratch_at m c ⟨t.val - 1, by omega⟩ (by show (t.val - 1) % 2 = 0; omega) r k R (by show R.val = 1024 * ((t.val - 1) / 2) + r.val; omega)
    · funext k; exact block_2 m c t k a C hC

/-- The array the kernel leaves. -/
def result (c : Dev nD) : S32768x4352.Idx → EReal := fun i =>
  proj (argX m c) (argG m c) (argW m c) (i 0) ⟨(i 1).val, lt_trans (i 1).isLt (by decide)⟩

/-- The grid's blocks tile the result's array. -/
theorem final (c : Dev nD) : (dats m 0 c).arrAt 3 cfg0.N = result m c := by
  refine (dats m 0 c).arrAt_eq_of_covers 3 _ (by decide +kernel) fun t hf y => ?_
  have hi : win0_3.index t (0 : Fin 2) = t.val / 2 ∧ win0_3.index t (1 : Fin 2) = t.val % 2 :=
    (by decide +kernel : ∀ t : Fin grid0.N, win0_3.index t (0 : Fin 2) = t.val / 2 ∧ win0_3.index t (1 : Fin 2) = t.val % 2) t
  rw [after0_3]
  blk_simp
  have ht : t.val < 64 := lt_of_lt_of_eq t.isLt N_0
  obtain ⟨r, a, rfl⟩ : ∃ (r : Fin 1024) (a : Fin 2176), y = ix2 r a := ⟨y 0, y 1, eq_ix2 y⟩
  refine (point_at m c t r a ⟨1024 * (t.val / 2) + r.val, by omega⟩ ⟨2176 * (t.val % 2) + a.val, by omega⟩ rfl rfl).trans ?_
  unfold result
  congr 1
  · apply Fin.ext
    show 1024 * (t.val / 2) + r.val = win0_3.index t (0 : Fin 2) * 1024 + 1 * r.val
    omega
  · apply Fin.ext
    show 2176 * (t.val % 2) + a.val = win0_3.index t (1 : Fin 2) * 2176 + 1 * a.val
    omega

/-- The kernel's run: the result's array at the projections, the arguments as they were. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from run_main m ρ
  exact final m c

end Cert.InProj

end
-- ==== Proof.InProj.RefVal.lean ====
/- The input projection's reference: its run, and the array it returns at every index. -/
module

public import proofs.«01_k».proof.Proof.Gen.Reference3Ideal
public import proofs.«01_k».proof.Proof.Layer.Spec
public import proofs.«01_k».proof.Proof.Layer.Reads
public import Idealize.ShloMosaic.Lib.Claim

@[expose] public section

set_option maxRecDepth 16384

noncomputable section

namespace Cert.InProjRef

open Idealize.ShloMosaic Idealize.SL.Sem Idealize.ShloMosaic.TcCoe Cert.Reference3Ideal Cert.Reference3Ideal.Gen Cert.Layer

/-- The rows normed. -/
def normedRows (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- A normed row, read at a column. -/
theorem normedRows_at (x : FVec Ideal S32768x1024 .f32) (g : FVec Ideal S1024 .f32) (R : Fin 32768) (k : Fin 1024) :
    (normedRows x g : S32768x1024.Idx → EReal) (ix2 R k) = normed (fun j => x (ix2 R j)) (fun j => g (ix1 j)) k := by
  unfold normedRows
  pointwise
  rfl

/-- The first 4352 columns of the rows against the weights. -/
def projected (h : FVec Ideal S32768x1024 .f32) (w : FVec Ideal S1024x6400 .f32) : FVec Ideal S32768x4352 .f32 :=
  extractStridedSlice S32768x4352 ![0, 0] (Host.dotGeneral dot_S32768x1024_S1024x6400_S32768x6400_1_0_0_1_n_n none h w) slices_S32768x6400_S32768x4352_0_0

/-- A column of the projection, as a row's product with that column of the weights. -/
theorem projected_at (h : FVec Ideal S32768x1024 .f32) (w : FVec Ideal S1024x6400 .f32) (R : Fin 32768) (C : Fin 4352) :
    (projected h w : S32768x4352.Idx → EReal) (ix2 R C) = dotAt (fun k => h (ix2 R k)) (fun k => w (ix2 k ⟨C.val, by omega⟩)) := by
  unfold projected
  pointwise
  rfl

/-- The reference's result. -/
def value (x : S16x2048x1024.Idx → EReal) (g : S1x1024.Idx → EReal) (w : S1x1024x6400.Idx → EReal) : FVec Ideal S32768x4352 .f32 :=
  projected (normedRows (shapeCast S32768x1024 x shapeCasts_S16x2048x1024_S32768x1024) (shapeCast S1024 g shapeCasts_S1x1024_S1024))
    (shapeCast S1024x6400 w shapeCasts_S1x1024x6400_S1024x6400)

/-- The reference's result at row R and column C is the projection of that row's normed values. -/
theorem value_at (x : S16x2048x1024.Idx → EReal) (g : S1x1024.Idx → EReal) (w : S1x1024x6400.Idx → EReal) (R : Fin 32768) (C : Fin 4352) :
    (value x g w : S32768x4352.Idx → EReal) (ix2 R C)
      = proj (fun b r k => x (ix3 b r k)) (fun k => g (ix2 0 k)) (fun k a => w (ix3 0 k a)) R ⟨C.val, by omega⟩ := by
  unfold value proj
  rw [projected_at]
  congr 1
  · funext k
    rw [normedRows_at]
    congr 1
    · funext j; exact join_at x _ R j
    · funext j; exact gain_at g _ j
  · funext k; exact wide_at w _ k _

/-- The reference's run: its result at `value` of the arguments, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  rfl

end Cert.InProjRef

end
-- ==== Proof.Merge.Block.lean ====
/- What one grid point of the merge stores, as terms of the blocks it reads: every load and store is of a whole buffer. -/
module

public import proofs.«01_k».proof.Proof.Gen.Kernel2Ideal.Frame
public import Idealize.ShloMosaic.Lib.Pipeline.Value

@[expose] public section

set_option maxRecDepth 16384

noncomputable section

namespace Cert.Merge

open Idealize.ShloMosaic Cert.Kernel2Ideal Cert.Kernel2Ideal.Gen

variable {F : FTy → Type} [FloatOps F]

/-- The offsets of a load or store of a whole matrix. -/
theorem hz : (![0, 0] : Fin 2 → Nat) = fun _ => 0 := by decide

/-- The input rows, as the body reads them. -/
theorem rows_read (x0 : Vec F S256x1024 .f32) (x1 : Vec F S1x1024 .f32) (x2 : Vec F S1024x2048 .bf16) (x3 : Vec F S256x512 .f32) (x4 : Vec F S256x256 .f32) (x5 : Vec F S512x1024 .bf16) (x6 : Vec F S256x1024 .bf16) (x7 : Vec F S1024x1024 .bf16) (x8 : Vec F S1x1024 .f32) (x9 : Vec F S1024x1024 .bf16) :
    k0_pay6 x0 x1 x2 x3 x4 x5 x6 x7 x8 x9 = x0 := by
  unfold k0_pay6 k0_pay4
  rw [View.ld_unit_zero (S := S256x1024) hz, shapeCast_self]

/-- The gated branches, over the blocks. -/
theorem mixed_read (x0 : Vec F S256x1024 .f32) (x1 : Vec F S1x1024 .f32) (x2 : Vec F S1024x2048 .bf16) (x3 : Vec F S256x512 .f32) (x4 : Vec F S256x256 .f32) (x5 : Vec F S512x1024 .bf16) (x6 : Vec F S256x1024 .bf16) (x7 : Vec F S1024x1024 .bf16) (x8 : Vec F S1x1024 .f32) (x9 : Vec F S1024x1024 .bf16) :
    k0_pay7 x0 x1 x2 x3 x4 x5 x6 x7 x8 x9 = k0_pay5 x0 x1 x2 x3 x5 x4 x6 := by
  unfold k0_pay7
  rw [View.ld_unit_zero (S := S256x1024) hz, View.ld_unit_zero (S := S1x1024) hz, View.ld_unit_zero (S := S1024x2048) hz,
    View.ld_unit_zero (S := S256x512) hz, View.ld_unit_zero (S := S512x1024) hz, View.ld_unit_zero (S := S256x256) hz,
    View.ld_unit_zero (S := S256x1024) hz]

/-- The block of residual rows. -/
theorem out_10 (x0 : Vec F S256x1024 .f32) (x1 : Vec F S1x1024 .f32) (x2 : Vec F S1024x2048 .bf16) (x3 : Vec F S256x512 .f32) (x4 : Vec F S256x256 .f32) (x5 : Vec F S512x1024 .bf16) (x6 : Vec F S256x1024 .bf16) (x7 : Vec F S1024x1024 .bf16) (x8 : Vec F S1x1024 .f32) (x9 : Vec F S1024x1024 .bf16) :
    out0_10 x0 x1 x2 x3 x4 x5 x6 x7 x8 x9 = k0_pay1 x0 (k0_pay5 x0 x1 x2 x3 x5 x4 x6) x7 := by
  unfold out0_10
  rw [View.canon_unit_zero (S := S256x1024) hz, rows_read, mixed_read, View.ld_unit_zero (S := S1024x1024) hz]

/-- The block of normed rows. -/
theorem out_11 (x0 : Vec F S256x1024 .f32) (x1 : Vec F S1x1024 .f32) (x2 : Vec F S1024x2048 .bf16) (x3 : Vec F S256x512 .f32) (x4 : Vec F S256x256 .f32) (x5 : Vec F S512x1024 .bf16) (x6 : Vec F S256x1024 .bf16) (x7 : Vec F S1024x1024 .bf16) (x8 : Vec F S1x1024 .f32) (x9 : Vec F S1024x1024 .bf16) :
    out0_11 x0 x1 x2 x3 x4 x5 x6 x7 x8 x9 = k0_pay2 x0 (k0_pay5 x0 x1 x2 x3 x5 x4 x6) x7 x8 := by
  unfold out0_11
  rw [View.canon_unit_zero (S := S256x1024) hz, rows_read, mixed_read, View.ld_unit_zero (S := S1024x1024) hz, View.ld_unit_zero (S := S1x1024) hz]

/-- The block of queries. -/
theorem out_12 (x0 : Vec F S256x1024 .f32) (x1 : Vec F S1x1024 .f32) (x2 : Vec F S1024x2048 .bf16) (x3 : Vec F S256x512 .f32) (x4 : Vec F S256x256 .f32) (x5 : Vec F S512x1024 .bf16) (x6 : Vec F S256x1024 .bf16) (x7 : Vec F S1024x1024 .bf16) (x8 : Vec F S1x1024 .f32) (x9 : Vec F S1024x1024 .bf16) :
    out0_12 x0 x1 x2 x3 x4 x5 x6 x7 x8 x9 = k0_pay3 x0 (k0_pay5 x0 x1 x2 x3 x5 x4 x6) x7 x8 x9 := by
  unfold out0_12
  rw [View.canon_unit_zero (S := S256x1024) hz, rows_read, mixed_read, View.ld_unit_zero (S := S1024x1024) hz, View.ld_unit_zero (S := S1x1024) hz, View.ld_unit_zero (S := S1024x1024) hz]

end Cert.Merge

end
-- ==== Proof.Merge.Pay.lean ====
/- The merge at an index, over the extended reals: the kernel's blocks. -/
module

public import proofs.«01_k».proof.Proof.Gen.Kernel2Ideal.Skeleton
public import proofs.«01_k».proof.Proof.Layer.Spec

@[expose] public section

set_option maxRecDepth 16384

noncomputable section

namespace Cert.Merge

open Idealize.ShloMosaic Cert.Kernel2Ideal Cert.Kernel2Ideal.Gen Cert.Layer

/-- A block of rows normed. -/
def normedBlock (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 g broadcasts_S1x1024_S256x1024)

/-- A normed block, read at a row and a column. -/
theorem normedBlock_at (x : FVec Ideal S256x1024 .f32) (g : FVec Ideal S1x1024 .f32) (r : Fin 256) (k : Fin 1024) :
    (normedBlock x g : S256x1024.Idx → EReal) (ix2 r k) = normed (fun j => x (ix2 r j)) (fun j => g (ix2 0 j)) k := by
  unfold normedBlock
  pointwise
  rfl

/-- A block of rows against the gates' columns. -/
def gates (h : FVec Ideal S256x1024 .f32) (w : FVec Ideal S1024x2048 .bf16) : FVec Ideal S256x2048 .f32 :=
  matmul dot_S256x1024_S1024x2048_S256x2048_1_0_0_1_n_n none (truncf .bf16 h bitsLt_bf16_f32) w (constant S256x2048 .f32 0x00000000#32)

/-- A gate's pre-activation, as a row's product with a column of the gates' weights. -/
theorem gates_at (h : FVec Ideal S256x1024 .f32) (w : FVec Ideal S1024x2048 .bf16) (r : Fin 256) (a : Fin 2048) :
    (gates h w : S256x2048.Idx → EReal) (ix2 r a) = dotAt (fun k => h (ix2 r k)) (fun k => w (ix2 k a)) := by
  unfold gates
  pointwise
  rfl

/-- The recurrence's branch against its weights. -/
def branchA (y : FVec Ideal S256x512 .f32) (w : FVec Ideal S512x1024 .bf16) : FVec Ideal S256x1024 .f32 :=
  matmul dot_S256x512_S512x1024_S256x1024_1_0_0_1_n_n none (truncf .bf16 y bitsLt_bf16_f32) w (constant S256x1024 .f32 0x00000000#32)

/-- The recurrence's branch, read at a row and a column. -/
theorem branchA_at (y : FVec Ideal S256x512 .f32) (w : FVec Ideal S512x1024 .bf16) (r : Fin 256) (k : Fin 1024) :
    (branchA y w : S256x1024.Idx → EReal) (ix2 r k) = dotAt (fun j => y (ix2 r j)) (fun j => w (ix2 j k)) := by
  unfold branchA
  pointwise
  rfl

/-- The attention's branch against its weights. -/
def branchB (y : FVec Ideal S256x256 .f32) (w : FVec Ideal S256x1024 .bf16) : FVec Ideal S256x1024 .f32 :=
  matmul dot_S256x256_S256x1024_S256x1024_1_0_0_1_n_n none (truncf .bf16 y bitsLt_bf16_f32) w (constant S256x1024 .f32 0x00000000#32)

/-- The attention's branch, read at a row and a column. -/
theorem branchB_at (y : FVec Ideal S256x256 .f32) (w : FVec Ideal S256x1024 .bf16) (r : Fin 256) (k : Fin 1024) :
    (branchB y w : S256x1024.Idx → EReal) (ix2 r k) = dotAt (fun j => y (ix2 r j)) (fun j => w (ix2 j k)) := by
  unfold branchB
  pointwise
  rfl

/-- The gated branches added. -/
def mixedBlock (p : FVec Ideal S256x2048 .f32) (a b : FVec Ideal S256x1024 .f32) : FVec Ideal S256x1024 .bf16 :=
  truncf .bf16 (addf (mulf (logistic (extractStridedSlice S256x1024 ![0, 0] p slices_S256x2048_o0_0_S256x1024)) a)
    (mulf (logistic (extractStridedSlice S256x1024 ![0, 1024] p slices_S256x2048_o0_1024_S256x1024)) b)) bitsLt_bf16_f32

/-- The gated branches, read at a row and a column. -/
theorem mixedBlock_at (p : FVec Ideal S256x2048 .f32) (a b : FVec Ideal S256x1024 .f32) (r : Fin 256) (k : Fin 1024) :
    (mixedBlock p a b : S256x1024.Idx → EReal) (ix2 r k)
      = Ideal.logistic (p (ix2 r ⟨k.val, by omega⟩)) * (a (ix2 r k) : EReal) + Ideal.logistic (p (ix2 r ⟨1024 + k.val, by omega⟩)) * (b (ix2 r k) : EReal) := by
  unfold mixedBlock
  pointwise

/-- The first part of the kernel's body is these, one after another. -/
theorem pay5_eq (x : FVec Ideal S256x1024 .f32) (g : FVec Ideal S1x1024 .f32) (wg : FVec Ideal S1024x2048 .bf16) (ya : FVec Ideal S256x512 .f32)
    (wa : FVec Ideal S512x1024 .bf16) (yb : FVec Ideal S256x256 .f32) (wb : FVec Ideal S256x1024 .bf16) :
    k0_pay5 (F := Ideal) x g wg ya wa yb wb = mixedBlock (gates (normedBlock x g) wg) (branchA ya wa) (branchB yb wb) := by
  unfold k0_pay5 k0_pay4
  simp only [shapeCast_self]
  rfl

/-- The block of residual rows. -/
theorem pay1_at (x : FVec Ideal S256x1024 .f32) (y : FVec Ideal S256x1024 .bf16) (w : FVec Ideal S1024x1024 .bf16) (r : Fin 256) (k : Fin 1024) :
    (k0_pay1 (F := Ideal) x y w : S256x1024.Idx → EReal) (ix2 r k)
      = residual (fun j => x (ix2 r j)) (fun j => y (ix2 r j)) (fun j k => w (ix2 j k)) k := by
  unfold k0_pay1
  pointwise
  rfl

/-- The second norm is the first one, of the residual rows. -/
theorem pay2_eq (x : FVec Ideal S256x1024 .f32) (y : FVec Ideal S256x1024 .bf16) (w : FVec Ideal S1024x1024 .bf16) (g : FVec Ideal S1x1024 .f32) :
    k0_pay2 (F := Ideal) x y w g = normedBlock (k0_pay1 (F := Ideal) x y w) g := by
  unfold k0_pay2
  simp only [shapeCast_self]
  rfl

/-- A block of rows against the query weights. -/
def queriesBlock (h : FVec Ideal S256x1024 .f32) (w : FVec Ideal S1024x1024 .bf16) : FVec Ideal S256x1024 .f32 :=
  matmul dot_S256x1024_S1024x1024_S256x1024_1_0_0_1_n_n none (truncf .bf16 h bitsLt_bf16_f32) w (constant S256x1024 .f32 0x00000000#32)

/-- A block of queries, read at a row and a column. -/
theorem queriesBlock_at (h : FVec Ideal S256x1024 .f32) (w : FVec Ideal S1024x1024 .bf16) (r : Fin 256) (k : Fin 1024) :
    (queriesBlock h w : S256x1024.Idx → EReal) (ix2 r k) = queries (fun j => h (ix2 r j)) (fun j k => w (ix2 j k)) k := by
  unfold queriesBlock
  pointwise
  rfl

/-- The third output's block is the query projection of the second output's block. -/
theorem pay3_eq (x : FVec Ideal S256x1024 .f32) (y : FVec Ideal S256x1024 .bf16) (w : FVec Ideal S1024x1024 .bf16) (g : FVec Ideal S1x1024 .f32) (wq : FVec Ideal S1024x1024 .bf16) :
    k0_pay3 (F := Ideal) x y w g wq = queriesBlock (k0_pay2 (F := Ideal) x y w g) wq := by
  unfold k0_pay3
  simp only [shapeCast_self]
  rfl

section Rows

variable {x : FVec Ideal S256x1024 .f32} {g : FVec Ideal S1x1024 .f32} {wg : FVec Ideal S1024x2048 .bf16} {ya : FVec Ideal S256x512 .f32}
  {wa : FVec Ideal S512x1024 .bf16} {yb : FVec Ideal S256x256 .f32} {wb : FVec Ideal S256x1024 .bf16} {wo : FVec Ideal S1024x1024 .bf16}
  {g2 : FVec Ideal S1x1024 .f32} {wq : FVec Ideal S1024x1024 .bf16} {r : Fin 256}
  {X G G2 : Fin 1024 → EReal} {W : Fin 1024 → Fin 6400 → EReal} {YA : Fin 512 → EReal} {YB : Fin 256 → EReal}
  {WA : Fin 512 → Fin 1024 → EReal} {WB : Fin 256 → Fin 1024 → EReal} {WO WQ : Fin 1024 → Fin 1024 → EReal}

/-- Row `r` of the gated branches, in terms of the rows the blocks hold. -/
theorem mixed_row (hx : ∀ j, (x (ix2 r j) : EReal) = X j) (hg : ∀ j, (g (ix2 0 j) : EReal) = G j)
    (hw : ∀ (j : Fin 1024) (a : Fin 2048), (wg (ix2 j a) : EReal) = W j ⟨4352 + a.val, by omega⟩)
    (hya : ∀ j, (ya (ix2 r j) : EReal) = YA j) (hyb : ∀ j, (yb (ix2 r j) : EReal) = YB j)
    (hwa : ∀ j a, (wa (ix2 j a) : EReal) = WA j a) (hwb : ∀ j a, (wb (ix2 j a) : EReal) = WB j a) (k : Fin 1024) :
    (k0_pay5 (F := Ideal) x g wg ya wa yb wb : S256x1024.Idx → EReal) (ix2 r k) = mixed (normed X G) W YA YB WA WB k := by
  have hn : (fun j => (normedBlock x g : S256x1024.Idx → EReal) (ix2 r j)) = normed X G := by
    funext j
    rw [normedBlock_at, show (fun j => (x (ix2 r j) : EReal)) = X from funext hx, show (fun j => (g (ix2 0 j) : EReal)) = G from funext hg]
  have h0 : (gates (normedBlock x g) wg : S256x2048.Idx → EReal) (ix2 r ⟨k.val, by omega⟩) = dotAt (normed X G) (fun j => W j ⟨4352 + k.val, by omega⟩) := by
    rw [gates_at, hn]
    exact congrArg _ (funext fun j => hw j _)
  have h1 : (gates (normedBlock x g) wg : S256x2048.Idx → EReal) (ix2 r ⟨1024 + k.val, by omega⟩) = dotAt (normed X G) (fun j => W j ⟨5376 + k.val, by omega⟩) := by
    rw [gates_at, hn]
    refine congrArg _ (funext fun j => (hw j _).trans (congrArg (W j) (Fin.ext ?_)))
    show 4352 + (1024 + k.val) = 5376 + k.val
    omega
  have ha : (branchA ya wa : S256x1024.Idx → EReal) (ix2 r k) = dotAt YA (fun j => WA j k) := by
    rw [branchA_at]
    exact congrArg₂ _ (funext hya) (funext fun j => hwa j k)
  have hb : (branchB yb wb : S256x1024.Idx → EReal) (ix2 r k) = dotAt YB (fun j => WB j k) := by
    rw [branchB_at]
    exact congrArg₂ _ (funext hyb) (funext fun j => hwb j k)
  rw [pay5_eq, mixedBlock_at, h0, h1, ha, hb]
  rfl

/-- Row `r` of the residual. -/
theorem residual_row {y : FVec Ideal S256x1024 .bf16} {Y : Fin 1024 → EReal} (hx : ∀ j, (x (ix2 r j) : EReal) = X j)
    (hy : ∀ j, (y (ix2 r j) : EReal) = Y j) (hwo : ∀ j a, (wo (ix2 j a) : EReal) = WO j a) (k : Fin 1024) :
    (k0_pay1 (F := Ideal) x y wo : S256x1024.Idx → EReal) (ix2 r k) = residual X Y WO k := by
  rw [pay1_at, show (fun j => (x (ix2 r j) : EReal)) = X from funext hx, show (fun j => (y (ix2 r j) : EReal)) = Y from funext hy,
    show (fun j a => (wo (ix2 j a) : EReal)) = WO from funext fun j => funext fun a => hwo j a]

/-- Row `r` of the residual, normed. -/
theorem normed_row {y : FVec Ideal S256x1024 .bf16} {Y : Fin 1024 → EReal} (hx : ∀ j, (x (ix2 r j) : EReal) = X j)
    (hy : ∀ j, (y (ix2 r j) : EReal) = Y j) (hwo : ∀ j a, (wo (ix2 j a) : EReal) = WO j a) (hg2 : ∀ j, (g2 (ix2 0 j) : EReal) = G2 j) (k : Fin 1024) :
    (k0_pay2 (F := Ideal) x y wo g2 : S256x1024.Idx → EReal) (ix2 r k) = normed (residual X Y WO) G2 k := by
  rw [pay2_eq, normedBlock_at, show (fun j => (k0_pay1 (F := Ideal) x y wo (ix2 r j) : EReal)) = residual X Y WO from funext (residual_row hx hy hwo),
    show (fun j => (g2 (ix2 0 j) : EReal)) = G2 from funext hg2]

/-- Row `r` of the queries. -/
theorem queries_row {y : FVec Ideal S256x1024 .bf16} {Y : Fin 1024 → EReal} (hx : ∀ j, (x (ix2 r j) : EReal) = X j)
    (hy : ∀ j, (y (ix2 r j) : EReal) = Y j) (hwo : ∀ j a, (wo (ix2 j a) : EReal) = WO j a) (hg2 : ∀ j, (g2 (ix2 0 j) : EReal) = G2 j)
    (hwq : ∀ j a, (wq (ix2 j a) : EReal) = WQ j a) (k : Fin 1024) :
    (k0_pay3 (F := Ideal) x y wo g2 wq : S256x1024.Idx → EReal) (ix2 r k) = queries (normed (residual X Y WO) G2) WQ k := by
  rw [pay3_eq, queriesBlock_at, show (fun j => (k0_pay2 (F := Ideal) x y wo g2 (ix2 r j) : EReal)) = normed (residual X Y WO) G2 from funext (normed_row hx hy hwo hg2),
    show (fun j a => (wq (ix2 j a) : EReal)) = WQ from funext fun j => funext fun a => hwq j a]

end Rows

end Cert.Merge

end
-- ==== Proof.Merge.KernelVal.lean ====
/- The merge's kernel: the three arrays it leaves, at every index, as the layer's rows of the arguments. -/
module

public import proofs.«01_k».proof.Proof.Merge.Block
public import proofs.«01_k».proof.Proof.Merge.Pay
public import proofs.«01_k».proof.Proof.Layer.Reads
public import Idealize.ShloMosaic.Lib.Pipeline.ValueKit
public import Idealize.ShloMosaic.Lib.Claim

@[expose] public section

set_option maxRecDepth 16384

noncomputable section

namespace Cert.Merge

open Idealize.ShloMosaic Idealize.SL.Sem Idealize.ShloMosaic.TcCoe Cert.Kernel2Ideal Cert.Kernel2Ideal.Gen Cert.Layer

variable (m : (ℓ : Loc nD τ sig) → Buf (Elt Ideal) ℓ)

/-- The activations a device is launched with. -/
def argX (c : Dev nD) (b : Fin 16) (r : Fin 2048) (k : Fin 1024) : EReal := (m ((c : Thread nD τ).loc main_arg0) : S16x2048x1024.Idx → EReal) (ix3 b r k)
/-- The first norm's gain a device is launched with. -/
def argG (c : Dev nD) (k : Fin 1024) : EReal := (m ((c : Thread nD τ).loc main_arg1) : S1x1024.Idx → EReal) (ix2 0 k)
/-- The input projection's weights a device is launched with. -/
def argW (c : Dev nD) (k : Fin 1024) (a : Fin 6400) : EReal := (m ((c : Thread nD τ).loc main_arg2) : S1x1024x6400.Idx → EReal) (ix3 0 k a)
/-- The recurrence's output a device is launched with. -/
def argYa (c : Dev nD) (R : Fin 32768) (k : Fin 512) : EReal := (m ((c : Thread nD τ).loc main_arg3) : S32768x512.Idx → EReal) (ix2 R k)
/-- The attention's output a device is launched with. -/
def argYb (c : Dev nD) (R : Fin 32768) (k : Fin 256) : EReal := (m ((c : Thread nD τ).loc main_arg4) : S32768x256.Idx → EReal) (ix2 R k)
/-- The recurrence's branch weights a device is launched with. -/
def argWa (c : Dev nD) (k : Fin 512) (a : Fin 1024) : EReal := (m ((c : Thread nD τ).loc main_arg5) : S1x512x1024.Idx → EReal) (ix3 0 k a)
/-- The attention's branch weights a device is launched with. -/
def argWb (c : Dev nD) (k : Fin 256) (a : Fin 1024) : EReal := (m ((c : Thread nD τ).loc main_arg6) : S1x256x1024.Idx → EReal) (ix3 0 k a)
/-- The output weights a device is launched with. -/
def argWo (c : Dev nD) (k a : Fin 1024) : EReal := (m ((c : Thread nD τ).loc main_arg7) : S1x1024x1024.Idx → EReal) (ix3 0 k a)
/-- The second norm's gain a device is launched with. -/
def argG2 (c : Dev nD) (k : Fin 1024) : EReal := (m ((c : Thread nD τ).loc main_arg8) : S1x1024.Idx → EReal) (ix2 0 k)
/-- The query weights a device is launched with. -/
def argWq (c : Dev nD) (k a : Fin 1024) : EReal := (m ((c : Thread nD τ).loc main_arg9) : S1x1024x1024.Idx → EReal) (ix3 0 k a)

/-- The weights' columns from 4352 on, rounded. -/
theorem columns_at (w : S1x1024x6400.Idx → EReal) (k : Fin 1024) (a : Fin 2048) :
    (truncf (F := Ideal) .bf16 (extractStridedSlice S1024x2048 ![0, 4352] (shapeCast S1024x6400 w shapeCasts_S1x1024x6400_S1024x6400) slices_S1024x6400_S1024x2048_0_4352) bitsLt_bf16_f32 : S1024x2048.Idx → EReal) (ix2 k a)
      = w (ix3 0 k ⟨4352 + a.val, by omega⟩) := by
  pointwise

/-- The rows' buffer when the kernel starts: the batches, one after another. -/
theorem V_rows (c : Dev nD) (R : Fin 32768) (k : Fin 1024) : (V m c main_v0 : S32768x1024.Idx → EReal) (ix2 R k) = rows (argX m c) R k := by
  have h : V m c main_v0 = shapeCast S32768x1024 (m ((c : Thread nD τ).loc main_arg0) : S16x2048x1024.Idx → EReal) shapeCasts_S16x2048x1024_S32768x1024 := by
    unfold_abbrev_sides
    after_results
    rfl
  rw [h]
  exact join_at _ _ R k

/-- The first gain's buffer when the kernel starts. -/
theorem V_gain (c : Dev nD) (k : Fin 1024) : (V m c main_v14 : S1x1024.Idx → EReal) (ix2 0 k) = argG m c k := by
  have h : V m c main_v14 = shapeCast S1x1024 (shapeCast S1024 (m ((c : Thread nD τ).loc main_arg1) : S1x1024.Idx → EReal) shapeCasts_S1x1024_S1024) shapeCasts_S1024_S1x1024 := by
    unfold_abbrev_sides
    after_results
    rfl
  rw [h]
  exact gainRow_at _ _ _ k

/-- The second gain's buffer when the kernel starts. -/
theorem V_gain2 (c : Dev nD) (k : Fin 1024) : (V m c main_v15 : S1x1024.Idx → EReal) (ix2 0 k) = argG2 m c k := by
  have h : V m c main_v15 = shapeCast S1x1024 (shapeCast S1024 (m ((c : Thread nD τ).loc main_arg8) : S1x1024.Idx → EReal) shapeCasts_S1x1024_S1024) shapeCasts_S1024_S1x1024 := by
    unfold_abbrev_sides
    after_results
    rfl
  rw [h]
  exact gainRow_at _ _ _ k

/-- The gates' weights when the kernel starts: the columns from 4352 on. -/
theorem V_gates (c : Dev nD) (k : Fin 1024) (a : Fin 2048) : (V m c main_v4 : S1024x2048.Idx → EReal) (ix2 k a) = argW m c k ⟨4352 + a.val, by omega⟩ := by
  have h : V m c main_v4 = truncf (F := Ideal) .bf16 (extractStridedSlice S1024x2048 ![0, 4352] (shapeCast S1024x6400 (m ((c : Thread nD τ).loc main_arg2) : S1x1024x6400.Idx → EReal) shapeCasts_S1x1024x6400_S1024x6400) slices_S1024x6400_S1024x2048_0_4352) bitsLt_bf16_f32 := by
    unfold_abbrev_sides
    after_results
    rfl
  rw [h]
  exact columns_at _ k a

/-- The recurrence's branch weights when the kernel starts. -/
theorem V_wa (c : Dev nD) (k : Fin 512) (a : Fin 1024) : (V m c main_v6 : S512x1024.Idx → EReal) (ix2 k a) = argWa m c k a := by
  have h : V m c main_v6 = truncf (F := Ideal) .bf16 (shapeCast S512x1024 (m ((c : Thread nD τ).loc main_arg5) : S1x512x1024.Idx → EReal) shapeCasts_S1x512x1024_S512x1024) bitsLt_bf16_f32 := by
    unfold_abbrev_sides
    after_results
    rfl
  rw [h]
  exact Layer.branchA_at _ _ k a

/-- The attention's branch weights when the kernel starts. -/
theorem V_wb (c : Dev nD) (k : Fin 256) (a : Fin 1024) : (V m c main_v8 : S256x1024.Idx → EReal) (ix2 k a) = argWb m c k a := by
  have h : V m c main_v8 = truncf (F := Ideal) .bf16 (shapeCast S256x1024 (m ((c : Thread nD τ).loc main_arg6) : S1x256x1024.Idx → EReal) shapeCasts_S1x256x1024_S256x1024) bitsLt_bf16_f32 := by
    unfold_abbrev_sides
    after_results
    rfl
  rw [h]
  exact Layer.branchB_at _ _ k a

/-- The output weights when the kernel starts. -/
theorem V_wo (c : Dev nD) (k a : Fin 1024) : (V m c main_v10 : S1024x1024.Idx → EReal) (ix2 k a) = argWo m c k a := by
  have h : V m c main_v10 = truncf (F := Ideal) .bf16 (shapeCast S1024x1024 (m ((c : Thread nD τ).loc main_arg7) : S1x1024x1024.Idx → EReal) shapeCasts_S1x1024x1024_S1024x1024) bitsLt_bf16_f32 := by
    unfold_abbrev_sides
    after_results
    rfl
  rw [h]
  exact square_at _ _ k a

/-- The query weights when the kernel starts. -/
theorem V_wq (c : Dev nD) (k a : Fin 1024) : (V m c main_v13 : S1024x1024.Idx → EReal) (ix2 k a) = argWq m c k a := by
  have h : V m c main_v13 = truncf (F := Ideal) .bf16 (shapeCast S1024x1024 (m ((c : Thread nD τ).loc main_arg9) : S1x1024x1024.Idx → EReal) shapeCasts_S1x1024x1024_S1024x1024) bitsLt_bf16_f32 := by
    unfold_abbrev_sides
    after_results
    rfl
  rw [h]
  exact square_at _ _ k a

/-- The rows of grid point `t`: rows `256 t` on. -/
theorem block_0 (c : Dev nD) (t : Fin cfg0.N) (r : Fin 256) (k : Fin 1024) (R : Fin 32768) (hR : R.val = 256 * t.val + r.val) : iblk m c 0 t (ix2 r k) = rows (argX m c) R k := by
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold iblk
  rw [View.read_apply, cast_eq]
  refine Eq.trans (congrArg (V m c main_v0) (funext fun x => Fin.ext ?_)) (V_rows m c R k)
  match x with
  | ⟨0, _⟩ => show win0_0.index t (0 : Fin 2) * 256 + 1 * r.val = R.val; omega
  | ⟨1, _⟩ => show win0_0.index t (1 : Fin 2) * 1024 + 1 * k.val = k.val; omega

/-- The first gain, as every grid point reads it. -/
theorem block_1 (c : Dev nD) (t : Fin cfg0.N) (k : Fin 1024) : iblk m c 1 t (ix2 0 k) = argG m c k := by
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  unfold iblk
  rw [View.read_apply, cast_eq]
  refine Eq.trans (congrArg (V m c main_v14) (funext fun x => Fin.ext ?_)) (V_gain m c k)
  match x with
  | ⟨0, _⟩ => show win0_1.index t (0 : Fin 2) * 1 + 1 * 0 = 0; omega
  | ⟨1, _⟩ => show win0_1.index t (1 : Fin 2) * 1024 + 1 * k.val = k.val; omega

/-- The gates' weights, as every grid point reads them. -/
theorem block_2 (c : Dev nD) (t : Fin cfg0.N) (k : Fin 1024) (a : Fin 2048) : iblk m c 2 t (ix2 k a) = argW m c k ⟨4352 + a.val, by omega⟩ := by
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  unfold iblk
  rw [View.read_apply, cast_eq]
  refine Eq.trans (congrArg (V m c main_v4) (funext fun x => Fin.ext ?_)) (V_gates m c k a)
  match x with
  | ⟨0, _⟩ => show win0_2.index t (0 : Fin 2) * 1024 + 1 * k.val = k.val; omega
  | ⟨1, _⟩ => show win0_2.index t (1 : Fin 2) * 2048 + 1 * a.val = a.val; omega

/-- The recurrence's output, rows `256 t` on. -/
theorem block_3 (c : Dev nD) (t : Fin cfg0.N) (r : Fin 256) (k : Fin 512) (R : Fin 32768) (hR : R.val = 256 * t.val + r.val) : iblk m c 3 t (ix2 r k) = argYa m c R k := by
  have hi : win0_3.index t (0 : Fin 2) = t.val ∧ win0_3.index t (1 : Fin 2) = 0 :=
    (by decide +kernel : ∀ t : Fin grid0.N, win0_3.index t (0 : Fin 2) = t.val ∧ win0_3.index t (1 : Fin 2) = 0) t
  unfold iblk
  rw [View.read_apply, cast_eq]
  refine Eq.trans (congrArg (V m c main_arg3) (funext fun x => Fin.ext ?_)) (congrFun (V_main_arg3 m c) (ix2 R k))
  match x with
  | ⟨0, _⟩ => show win0_3.index t (0 : Fin 2) * 256 + 1 * r.val = R.val; omega
  | ⟨1, _⟩ => show win0_3.index t (1 : Fin 2) * 512 + 1 * k.val = k.val; omega

/-- The attention's output, rows `256 t` on. -/
theorem block_4 (c : Dev nD) (t : Fin cfg0.N) (r : Fin 256) (k : Fin 256) (R : Fin 32768) (hR : R.val = 256 * t.val + r.val) : iblk m c 4 t (ix2 r k) = argYb m c R k := by
  have hi : win0_4.index t (0 : Fin 2) = t.val ∧ win0_4.index t (1 : Fin 2) = 0 :=
    (by decide +kernel : ∀ t : Fin grid0.N, win0_4.index t (0 : Fin 2) = t.val ∧ win0_4.index t (1 : Fin 2) = 0) t
  unfold iblk
  rw [View.read_apply, cast_eq]
  refine Eq.trans (congrArg (V m c main_arg4) (funext fun x => Fin.ext ?_)) (congrFun (V_main_arg4 m c) (ix2 R k))
  match x with
  | ⟨0, _⟩ => show win0_4.index t (0 : Fin 2) * 256 + 1 * r.val = R.val; omega
  | ⟨1, _⟩ => show win0_4.index t (1 : Fin 2) * 256 + 1 * k.val = k.val; omega

/-- The recurrence's branch weights, as every grid point reads them. -/
theorem block_5 (c : Dev nD) (t : Fin cfg0.N) (k : Fin 512) (a : Fin 1024) : iblk m c 5 t (ix2 k a) = argWa m c k a := by
  have hi : win0_5.index t (0 : Fin 2) = 0 ∧ win0_5.index t (1 : Fin 2) = 0 :=
    (by decide +kernel : ∀ t : Fin grid0.N, win0_5.index t (0 : Fin 2) = 0 ∧ win0_5.index t (1 : Fin 2) = 0) t
  unfold iblk
  rw [View.read_apply, cast_eq]
  refine Eq.trans (congrArg (V m c main_v6) (funext fun x => Fin.ext ?_)) (V_wa m c k a)
  match x with
  | ⟨0, _⟩ => show win0_5.index t (0 : Fin 2) * 512 + 1 * k.val = k.val; omega
  | ⟨1, _⟩ => show win0_5.index t (1 : Fin 2) * 1024 + 1 * a.val = a.val; omega

/-- The attention's branch weights, as every grid point reads them. -/
theorem block_6 (c : Dev nD) (t : Fin cfg0.N) (k : Fin 256) (a : Fin 1024) : iblk m c 6 t (ix2 k a) = argWb m c k a := by
  have hi : win0_6.index t (0 : Fin 2) = 0 ∧ win0_6.index t (1 : Fin 2) = 0 :=
    (by decide +kernel : ∀ t : Fin grid0.N, win0_6.index t (0 : Fin 2) = 0 ∧ win0_6.index t (1 : Fin 2) = 0) t
  unfold iblk
  rw [View.read_apply, cast_eq]
  refine Eq.trans (congrArg (V m c main_v8) (funext fun x => Fin.ext ?_)) (V_wb m c k a)
  match x with
  | ⟨0, _⟩ => show win0_6.index t (0 : Fin 2) * 256 + 1 * k.val = k.val; omega
  | ⟨1, _⟩ => show win0_6.index t (1 : Fin 2) * 1024 + 1 * a.val = a.val; omega

/-- The output weights, as every grid point reads them. -/
theorem block_7 (c : Dev nD) (t : Fin cfg0.N) (k a : Fin 1024) : iblk m c 7 t (ix2 k a) = argWo m c k a := by
  have hi : win0_7.index t (0 : Fin 2) = 0 ∧ win0_7.index t (1 : Fin 2) = 0 :=
    (by decide +kernel : ∀ t : Fin grid0.N, win0_7.index t (0 : Fin 2) = 0 ∧ win0_7.index t (1 : Fin 2) = 0) t
  unfold iblk
  rw [View.read_apply, cast_eq]
  refine Eq.trans (congrArg (V m c main_v10) (funext fun x => Fin.ext ?_)) (V_wo m c k a)
  match x with
  | ⟨0, _⟩ => show win0_7.index t (0 : Fin 2) * 1024 + 1 * k.val = k.val; omega
  | ⟨1, _⟩ => show win0_7.index t (1 : Fin 2) * 1024 + 1 * a.val = a.val; omega

/-- The second gain, as every grid point reads it. -/
theorem block_8 (c : Dev nD) (t : Fin cfg0.N) (k : Fin 1024) : iblk m c 8 t (ix2 0 k) = argG2 m c k := by
  have hi : win0_8.index t (0 : Fin 2) = 0 ∧ win0_8.index t (1 : Fin 2) = 0 :=
    (by decide +kernel : ∀ t : Fin grid0.N, win0_8.index t (0 : Fin 2) = 0 ∧ win0_8.index t (1 : Fin 2) = 0) t
  unfold iblk
  rw [View.read_apply, cast_eq]
  refine Eq.trans (congrArg (V m c main_v15) (funext fun x => Fin.ext ?_)) (V_gain2 m c k)
  match x with
  | ⟨0, _⟩ => show win0_8.index t (0 : Fin 2) * 1 + 1 * 0 = 0; omega
  | ⟨1, _⟩ => show win0_8.index t (1 : Fin 2) * 1024 + 1 * k.val = k.val; omega

/-- The query weights, as every grid point reads them. -/
theorem block_9 (c : Dev nD) (t : Fin cfg0.N) (k a : Fin 1024) : iblk m c 9 t (ix2 k a) = argWq m c k a := by
  have hi : win0_9.index t (0 : Fin 2) = 0 ∧ win0_9.index t (1 : Fin 2) = 0 :=
    (by decide +kernel : ∀ t : Fin grid0.N, win0_9.index t (0 : Fin 2) = 0 ∧ win0_9.index t (1 : Fin 2) = 0) t
  unfold iblk
  rw [View.read_apply, cast_eq]
  refine Eq.trans (congrArg (V m c main_v13) (funext fun x => Fin.ext ?_)) (V_wq m c k a)
  match x with
  | ⟨0, _⟩ => show win0_9.index t (0 : Fin 2) * 1024 + 1 * k.val = k.val; omega
  | ⟨1, _⟩ => show win0_9.index t (1 : Fin 2) * 1024 + 1 * a.val = a.val; omega

/-- Row `R` of the gated branches. -/
def mixedRow (c : Dev nD) (R : Fin 32768) : Fin 1024 → EReal :=
  mixed (normed (rows (argX m c) R) (argG m c)) (argW m c) (argYa m c R) (argYb m c R) (argWa m c) (argWb m c)
/-- Row `R` of the residual. -/
def residualRow (c : Dev nD) (R : Fin 32768) : Fin 1024 → EReal := residual (rows (argX m c) R) (mixedRow m c R) (argWo m c)
/-- Row `R` of the residual, normed. -/
def normedRow (c : Dev nD) (R : Fin 32768) : Fin 1024 → EReal := normed (residualRow m c R) (argG2 m c)
/-- Row `R` of the queries. -/
def queryRow (c : Dev nD) (R : Fin 32768) : Fin 1024 → EReal := queries (normedRow m c R) (argWq m c)

/-- The block of gated branches at grid point `t`. -/
def mixedAt (c : Dev nD) (t : Fin cfg0.N) : FVec Ideal S256x1024 .bf16 :=
  k0_pay5 (F := Ideal) (iblk m c 0 t) (iblk m c 1 t) (iblk m c 2 t) (iblk m c 3 t) (iblk m c 5 t) (iblk m c 4 t) (iblk m c 6 t)

/-- The gated branches of grid point `t`, row `r`, are those of row 256 t + r of the whole array. -/
theorem mixed_at (c : Dev nD) (t : Fin cfg0.N) (r : Fin 256) (k : Fin 1024) (R : Fin 32768) (hR : R.val = 256 * t.val + r.val) :
    (mixedAt m c t : S256x1024.Idx → EReal) (ix2 r k) = mixedRow m c R k :=
  mixed_row (fun j => block_0 m c t r j R hR) (fun j => block_1 m c t j) (fun j a => block_2 m c t j a) (fun j => block_3 m c t r j R hR)
    (fun j => block_4 m c t r j R hR) (fun j a => block_5 m c t j a) (fun j a => block_6 m c t j a) k

/-- The block of output 0 grid point `t` writes back, as the body's term of its input blocks. -/
theorem after_10 (c : Dev nD) (t : Fin cfg0.N) : (dats m 0 c).after 10 t = k0_pay1 (F := Ideal) (iblk m c 0 t) (mixedAt m c t) (iblk m c 7 t)
    := (after0_10 m c t).trans (out_10 ..)

/-- What grid point `t` writes to the first output is the residual row 256 t + r. -/
theorem point_10 (c : Dev nD) (t : Fin cfg0.N) (r : Fin 256) (k : Fin 1024) (R : Fin 32768) (hR : R.val = 256 * t.val + r.val) :
    ((dats m 0 c).after 10 t : S256x1024.Idx → EReal) (ix2 r k) = residualRow m c R k :=
  (congrFun (after_10 m c t) (ix2 r k)).trans (residual_row (fun j => block_0 m c t r j R hR) (fun j => mixed_at m c t r j R hR) (fun j a => block_7 m c t j a) k)

/-- The array of residual rows the kernel leaves. -/
def result_10 (c : Dev nD) : S32768x1024.Idx → EReal := fun i => residualRow m c (i 0) (i 1)

/-- After the last grid point the first output holds every residual row. -/
theorem final_10 (c : Dev nD) : (dats m 0 c).arrAt 10 cfg0.N = result_10 m c := by
  refine (dats m 0 c).arrAt_eq_of_covers 10 _ (by decide +kernel) fun t hf y => ?_
  have hi : win0_10.index t (0 : Fin 2) = t.val ∧ win0_10.index t (1 : Fin 2) = 0 :=
    (by decide +kernel : ∀ t : Fin grid0.N, win0_10.index t (0 : Fin 2) = t.val ∧ win0_10.index t (1 : Fin 2) = 0) t
  have ht : t.val < 128 := lt_of_lt_of_eq t.isLt N_0
  blk_simp
  obtain ⟨r, k, rfl⟩ : ∃ (r : Fin 256) (k : Fin 1024), y = ix2 r k := ⟨y 0, y 1, eq_ix2 y⟩
  refine (point_10 m c t r k ⟨256 * t.val + r.val, by omega⟩ rfl).trans ?_
  refine congrArg₂ (residualRow m c) (Fin.ext ?_) (Fin.ext ?_)
  · show 256 * t.val + r.val = win0_10.index t (0 : Fin 2) * 256 + 1 * r.val
    omega
  · show k.val = win0_10.index t (1 : Fin 2) * 1024 + 1 * k.val
    omega

/-- The block of output 1 grid point `t` writes back, as the body's term of its input blocks. -/
theorem after_11 (c : Dev nD) (t : Fin cfg0.N) : (dats m 0 c).after 11 t = k0_pay2 (F := Ideal) (iblk m c 0 t) (mixedAt m c t) (iblk m c 7 t) (iblk m c 8 t)
    := (after0_11 m c t).trans (out_11 ..)

/-- What grid point `t` writes to the second output is the normed row 256 t + r. -/
theorem point_11 (c : Dev nD) (t : Fin cfg0.N) (r : Fin 256) (k : Fin 1024) (R : Fin 32768) (hR : R.val = 256 * t.val + r.val) :
    ((dats m 0 c).after 11 t : S256x1024.Idx → EReal) (ix2 r k) = normedRow m c R k :=
  (congrFun (after_11 m c t) (ix2 r k)).trans (normed_row (fun j => block_0 m c t r j R hR) (fun j => mixed_at m c t r j R hR) (fun j a => block_7 m c t j a) (fun j => block_8 m c t j) k)

/-- The array of normed rows the kernel leaves. -/
def result_11 (c : Dev nD) : S32768x1024.Idx → EReal := fun i => normedRow m c (i 0) (i 1)

/-- After the last grid point the second output holds every normed row. -/
theorem final_11 (c : Dev nD) : (dats m 0 c).arrAt 11 cfg0.N = result_11 m c := by
  refine (dats m 0 c).arrAt_eq_of_covers 11 _ (by decide +kernel) fun t hf y => ?_
  have hi : win0_11.index t (0 : Fin 2) = t.val ∧ win0_11.index t (1 : Fin 2) = 0 :=
    (by decide +kernel : ∀ t : Fin grid0.N, win0_11.index t (0 : Fin 2) = t.val ∧ win0_11.index t (1 : Fin 2) = 0) t
  have ht : t.val < 128 := lt_of_lt_of_eq t.isLt N_0
  blk_simp
  obtain ⟨r, k, rfl⟩ : ∃ (r : Fin 256) (k : Fin 1024), y = ix2 r k := ⟨y 0, y 1, eq_ix2 y⟩
  refine (point_11 m c t r k ⟨256 * t.val + r.val, by omega⟩ rfl).trans ?_
  refine congrArg₂ (normedRow m c) (Fin.ext ?_) (Fin.ext ?_)
  · show 256 * t.val + r.val = win0_11.index t (0 : Fin 2) * 256 + 1 * r.val
    omega
  · show k.val = win0_11.index t (1 : Fin 2) * 1024 + 1 * k.val
    omega

/-- The block of output 2 grid point `t` writes back, as the body's term of its input blocks. -/
theorem after_12 (c : Dev nD) (t : Fin cfg0.N) : (dats m 0 c).after 12 t = k0_pay3 (F := Ideal) (iblk m c 0 t) (mixedAt m c t) (iblk m c 7 t) (iblk m c 8 t) (iblk m c 9 t)
    := (after0_12 m c t).trans (out_12 ..)

/-- What grid point `t` writes to the third output is the query row 256 t + r. -/
theorem point_12 (c : Dev nD) (t : Fin cfg0.N) (r : Fin 256) (k : Fin 1024) (R : Fin 32768) (hR : R.val = 256 * t.val + r.val) :
    ((dats m 0 c).after 12 t : S256x1024.Idx → EReal) (ix2 r k) = queryRow m c R k :=
  (congrFun (after_12 m c t) (ix2 r k)).trans (queries_row (fun j => block_0 m c t r j R hR) (fun j => mixed_at m c t r j R hR) (fun j a => block_7 m c t j a) (fun j => block_8 m c t j) (fun j a => block_9 m c t j a) k)

/-- The array of queries the kernel leaves. -/
def result_12 (c : Dev nD) : S32768x1024.Idx → EReal := fun i => queryRow m c (i 0) (i 1)

/-- After the last grid point the third output holds every query row. -/
theorem final_12 (c : Dev nD) : (dats m 0 c).arrAt 12 cfg0.N = result_12 m c := by
  refine (dats m 0 c).arrAt_eq_of_covers 12 _ (by decide +kernel) fun t hf y => ?_
  have hi : win0_12.index t (0 : Fin 2) = t.val ∧ win0_12.index t (1 : Fin 2) = 0 :=
    (by decide +kernel : ∀ t : Fin grid0.N, win0_12.index t (0 : Fin 2) = t.val ∧ win0_12.index t (1 : Fin 2) = 0) t
  have ht : t.val < 128 := lt_of_lt_of_eq t.isLt N_0
  blk_simp
  obtain ⟨r, k, rfl⟩ : ∃ (r : Fin 256) (k : Fin 1024), y = ix2 r k := ⟨y 0, y 1, eq_ix2 y⟩
  refine (point_12 m c t r k ⟨256 * t.val + r.val, by omega⟩ rfl).trans ?_
  refine congrArg₂ (queryRow m c) (Fin.ext ?_) (Fin.ext ?_)
  · show 256 * t.val + r.val = win0_12.index t (0 : Fin 2) * 256 + 1 * r.val
    omega
  · show k.val = win0_12.index t (1 : Fin 2) * 1024 + 1 * k.val
    omega

/-- The kernel's run: its three results, the arguments as they were. -/
theorem run (ρ : Dev nD → PrngReg) : θ_run defs (onTc (τ := τ) (main (F := Ideal))) ⟨m, fun _ => 0, ρ⟩ fun r => ∀ c : Dev nD,
      r.2.mem ((c : Thread nD τ).loc main_v16_0) = result_10 m c
      ∧ r.2.mem ((c : Thread nD τ).loc main_v16_1) = result_11 m c
      ∧ r.2.mem ((c : Thread nD τ).loc main_v16_2) = result_12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  run_from run_main m ρ
  · exact final_10 m c
  · exact final_11 m c
  · exact final_12 m c

end Cert.Merge

end
-- ==== Proof.Merge.RefVal.lean ====
/- The merge's reference: its run, and the three arrays it returns at every index. -/
module

public import proofs.«01_k».proof.Proof.Gen.Reference2Ideal
public import proofs.«01_k».proof.Proof.Layer.Spec
public import proofs.«01_k».proof.Proof.Layer.Reads
public import Idealize.ShloMosaic.Lib.Claim

@[expose] public section

set_option maxRecDepth 16384

noncomputable section

namespace Cert.MergeRef

open Idealize.ShloMosaic Idealize.SL.Sem Idealize.ShloMosaic.TcCoe Cert.Reference2Ideal Cert.Reference2Ideal.Gen Cert.Layer

/-- Rows normed. -/
def normedRows (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- A normed row, read at a column. -/
theorem normedRows_at (x : FVec Ideal S32768x1024 .f32) (g : FVec Ideal S1024 .f32) (R : Fin 32768) (k : Fin 1024) :
    (normedRows x g : S32768x1024.Idx → EReal) (ix2 R k) = normed (fun j => x (ix2 R j)) (fun j => g (ix1 j)) k := by
  unfold normedRows
  pointwise
  rfl

/-- Rows against the input projection's weights. -/
def projected (h : FVec Ideal S32768x1024 .f32) (w : FVec Ideal S1024x6400 .f32) : FVec Ideal S32768x6400 .f32 :=
  Host.dotGeneral dot_S32768x1024_S1024x6400_S32768x6400_1_0_0_1_n_n none h w

/-- A column of the input projection, as a row's product with that column of the weights. -/
theorem projected_at (h : FVec Ideal S32768x1024 .f32) (w : FVec Ideal S1024x6400 .f32) (R : Fin 32768) (C : Fin 6400) :
    (projected h w : S32768x6400.Idx → EReal) (ix2 R C) = dotAt (fun k => h (ix2 R k)) (fun k => w (ix2 k C)) := by
  unfold projected
  pointwise
  rfl

/-- The recurrence's branch against its weights. -/
def branchA (y : FVec Ideal S32768x512 .f32) (w : FVec Ideal S512x1024 .f32) : FVec Ideal S32768x1024 .f32 :=
  Host.dotGeneral dot_S32768x512_S512x1024_S32768x1024_1_0_0_1_n_n none y w

/-- The recurrence's branch, read at a row and a column. -/
theorem branchA_at (y : FVec Ideal S32768x512 .f32) (w : FVec Ideal S512x1024 .f32) (R : Fin 32768) (k : Fin 1024) :
    (branchA y w : S32768x1024.Idx → EReal) (ix2 R k) = dotAt (fun j => y (ix2 R j)) (fun j => w (ix2 j k)) := by
  unfold branchA
  pointwise
  rfl

/-- The attention's branch against its weights. -/
def branchB (y : FVec Ideal S32768x256 .f32) (w : FVec Ideal S256x1024 .f32) : FVec Ideal S32768x1024 .f32 :=
  Host.dotGeneral dot_S32768x256_S256x1024_S32768x1024_1_0_0_1_n_n none y w

/-- The attention's branch, read at a row and a column. -/
theorem branchB_at (y : FVec Ideal S32768x256 .f32) (w : FVec Ideal S256x1024 .f32) (R : Fin 32768) (k : Fin 1024) :
    (branchB y w : S32768x1024.Idx → EReal) (ix2 R k) = dotAt (fun j => y (ix2 R j)) (fun j => w (ix2 j k)) := by
  unfold branchB
  pointwise
  rfl

/-- Rows against square weights. -/
def squared (y : FVec Ideal S32768x1024 .f32) (w : FVec Ideal S1024x1024 .f32) : FVec Ideal S32768x1024 .f32 :=
  Host.dotGeneral dot_S32768x1024_S1024x1024_S32768x1024_1_0_0_1_n_n none y w

/-- A product with square weights, read at a row and a column. -/
theorem squared_at (y : FVec Ideal S32768x1024 .f32) (w : FVec Ideal S1024x1024 .f32) (R : Fin 32768) (k : Fin 1024) :
    (squared y w : S32768x1024.Idx → EReal) (ix2 R k) = dotAt (fun j => y (ix2 R j)) (fun j => w (ix2 j k)) := by
  unfold squared
  pointwise
  rfl

/-- The sigmoid of every element. -/
def sigmoid (x : FVec Ideal S32768x1024 .f32) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32)) (Host.exp (Host.negf x)))

/-- The sigmoid, read at a row and a column. -/
theorem sigmoid_at (x : FVec Ideal S32768x1024 .f32) (R : Fin 32768) (k : Fin 1024) :
    (sigmoid x : S32768x1024.Idx → EReal) (ix2 R k) = Ideal.logistic (x (ix2 R k)) := by
  unfold sigmoid
  pointwise
  rfl

/-- The gates' columns. -/
theorem gateA_at (p : FVec Ideal S32768x6400 .f32) (R : Fin 32768) (k : Fin 1024) :
    (extractStridedSlice S32768x1024 ![0, 4352] p slices_S32768x6400_S32768x1024_0_4352 : S32768x1024.Idx → EReal) (ix2 R k) = p (ix2 R ⟨4352 + k.val, by omega⟩) := by
  pointwise

/-- The second gate's columns begin at 5376. -/
theorem gateB_at (p : FVec Ideal S32768x6400 .f32) (R : Fin 32768) (k : Fin 1024) :
    (extractStridedSlice S32768x1024 ![0, 5376] p slices_S32768x6400_S32768x1024_0_5376 : S32768x1024.Idx → EReal) (ix2 R k) = p (ix2 R ⟨5376 + k.val, by omega⟩) := by
  pointwise

/-- Gated branches added. -/
def gated (p : FVec Ideal S32768x6400 .f32) (a b : FVec Ideal S32768x1024 .f32) : FVec Ideal S32768x1024 .f32 :=
  addf (mulf (sigmoid (extractStridedSlice S32768x1024 ![0, 4352] p slices_S32768x6400_S32768x1024_0_4352)) a)
    (mulf (sigmoid (extractStridedSlice S32768x1024 ![0, 5376] p slices_S32768x6400_S32768x1024_0_5376)) b)

/-- The gated branches, read at a row and a column. -/
theorem gated_at (p : FVec Ideal S32768x6400 .f32) (a b : FVec Ideal S32768x1024 .f32) (R : Fin 32768) (k : Fin 1024) :
    (gated p a b : S32768x1024.Idx → EReal) (ix2 R k)
      = Ideal.logistic (p (ix2 R ⟨4352 + k.val, by omega⟩)) * (a (ix2 R k) : EReal) + Ideal.logistic (p (ix2 R ⟨5376 + k.val, by omega⟩)) * (b (ix2 R k) : EReal) := by
  have ha : (sigmoid (extractStridedSlice S32768x1024 ![0, 4352] p slices_S32768x6400_S32768x1024_0_4352) : S32768x1024.Idx → EReal) (ix2 R k) = Ideal.logistic (p (ix2 R ⟨4352 + k.val, by omega⟩)) :=
    (sigmoid_at _ R k).trans (congrArg Ideal.logistic (gateA_at p R k))
  have hb : (sigmoid (extractStridedSlice S32768x1024 ![0, 5376] p slices_S32768x6400_S32768x1024_0_5376) : S32768x1024.Idx → EReal) (ix2 R k) = Ideal.logistic (p (ix2 R ⟨5376 + k.val, by omega⟩)) :=
    (sigmoid_at _ R k).trans (congrArg Ideal.logistic (gateB_at p R k))
  rw [← ha, ← hb]
  rfl

/-- The input's rows. -/
def inputRows (x : FVec Ideal S16x2048x1024 .f32) : FVec Ideal S32768x1024 .f32 := shapeCast S32768x1024 x shapeCasts_S16x2048x1024_S32768x1024

/-- The gated branches. -/
def mixedRows (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) : FVec Ideal S32768x1024 .f32 :=
  gated (projected (normedRows (inputRows x) (shapeCast S1024 g shapeCasts_S1x1024_S1024)) (shapeCast S1024x6400 w shapeCasts_S1x1024x6400_S1024x6400))
    (branchA ya (shapeCast S512x1024 wa shapeCasts_S1x512x1024_S512x1024)) (branchB yb (shapeCast S256x1024 wb shapeCasts_S1x256x1024_S256x1024))

/-- The first result: the residual. -/
def value_0 (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) : FVec Ideal S32768x1024 .f32 :=
  addf (inputRows x) (squared (mixedRows x g w ya yb wa wb) (shapeCast S1024x1024 wo shapeCasts_S1x1024x1024_S1024x1024))

/-- The second result: the residual, normed. -/
def value_1 (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) (g2 : FVec Ideal S1x1024 .f32) : FVec Ideal S32768x1024 .f32 :=
  normedRows (value_0 x g w ya yb wa wb wo) (shapeCast S1024 g2 shapeCasts_S1x1024_S1024)

/-- The third result: the queries. -/
def value_2 (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) (g2 : FVec Ideal S1x1024 .f32) (wq : FVec Ideal S1x1024x1024 .f32) : FVec Ideal S32768x1024 .f32 :=
  squared (value_1 x g w ya yb wa wb wo g2) (shapeCast S1024x1024 wq shapeCasts_S1x1024x1024_S1024x1024)

/-- A device's gated branches, residual, normed residual and queries at row `R`, as the layer's rows of the arguments. -/
def mixedRow (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (R : Fin 32768) : Fin 1024 → EReal :=
  mixed (normed (rows (fun b r k => x (ix3 b r k)) R) (fun k => g (ix2 0 k))) (fun k a => w (ix3 0 k a)) (fun k => ya (ix2 R k)) (fun k => yb (ix2 R k))
    (fun k a => wa (ix3 0 k a)) (fun k a => wb (ix3 0 k a))
/-- A row of the layer's input with the merged branches added. -/
def residualRow (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) (R : Fin 32768) : Fin 1024 → EReal :=
  Layer.residual (rows (fun b r k => x (ix3 b r k)) R) (mixedRow x g w ya yb wa wb R) (fun k a => wo (ix3 0 k a))
/-- That row after the second norm. -/
def normedRow (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) (g2 : FVec Ideal S1x1024 .f32) (R : Fin 32768) : Fin 1024 → EReal := normed (residualRow x g w ya yb wa wb wo R) (fun k => g2 (ix2 0 k))
/-- The queries of that normed row. -/
def queryRow (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) (g2 : FVec Ideal S1x1024 .f32) (wq : FVec Ideal S1x1024x1024 .f32) (R : Fin 32768) : Fin 1024 → EReal := queries (normedRow x g w ya yb wa wb wo g2 R) (fun k a => wq (ix3 0 k a))

/-- The reference's gated branches, row by row. -/
theorem mixed_at (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (R : Fin 32768) (k : Fin 1024) :
    (mixedRows x g w ya yb wa wb : S32768x1024.Idx → EReal) (ix2 R k) = mixedRow x g w ya yb wa wb R k := by
  have hn : (fun j => (normedRows (inputRows x) (shapeCast S1024 g shapeCasts_S1x1024_S1024) : S32768x1024.Idx → EReal) (ix2 R j))
      = normed (rows (fun b r k => x (ix3 b r k)) R) (fun k => g (ix2 0 k)) := by
    funext j
    rw [normedRows_at]
    exact congrFun (congrArg₂ normed (funext fun a => join_at x _ R a) (funext fun a => gain_at g _ a)) j
  unfold mixedRows
  rw [gated_at, projected_at, projected_at, branchA_at, branchB_at, hn]
  unfold mixedRow mixed
  refine congrArg₂ (· + ·) (congrArg₂ (· * ·) (congrArg Ideal.logistic (congrArg (dotAt _) (funext fun j => wide_at w _ j _))) (congrArg (dotAt _) (funext fun j => Layer.branchA_at wa _ j k)))
    (congrArg₂ (· * ·) (congrArg Ideal.logistic (congrArg (dotAt _) (funext fun j => wide_at w _ j _))) (congrArg (dotAt _) (funext fun j => Layer.branchB_at wb _ j k)))

/-- The first result at an index. -/
theorem value_0_at (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) (R : Fin 32768) (k : Fin 1024) :
    (value_0 x g w ya yb wa wb wo : S32768x1024.Idx → EReal) (ix2 R k) = residualRow x g w ya yb wa wb wo R k := by
  have h := squared_at (mixedRows x g w ya yb wa wb) (shapeCast S1024x1024 wo shapeCasts_S1x1024x1024_S1024x1024) R k
  unfold value_0 residualRow Layer.residual
  refine congrArg₂ (· + ·) (join_at x _ R k) (h.trans ?_)
  exact congrArg₂ dotAt (funext fun j => mixed_at x g w ya yb wa wb R j) (funext fun j => square_at wo _ j k)

/-- The second result at an index. -/
theorem value_1_at (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) (g2 : FVec Ideal S1x1024 .f32) (R : Fin 32768) (k : Fin 1024) :
    (value_1 x g w ya yb wa wb wo g2 : S32768x1024.Idx → EReal) (ix2 R k) = normedRow x g w ya yb wa wb wo g2 R k := by
  unfold value_1 normedRow
  rw [normedRows_at]
  exact congrFun (congrArg₂ normed (funext fun j => value_0_at x g w ya yb wa wb wo R j) (funext fun a => gain_at g2 _ a)) k

/-- The third result at an index. -/
theorem value_2_at (x : FVec Ideal S16x2048x1024 .f32) (g : FVec Ideal S1x1024 .f32) (w : FVec Ideal S1x1024x6400 .f32) (ya : FVec Ideal S32768x512 .f32) (yb : FVec Ideal S32768x256 .f32) (wa : FVec Ideal S1x512x1024 .f32) (wb : FVec Ideal S1x256x1024 .f32) (wo : FVec Ideal S1x1024x1024 .f32) (g2 : FVec Ideal S1x1024 .f32) (wq : FVec Ideal S1x1024x1024 .f32) (R : Fin 32768) (k : Fin 1024) :
    (value_2 x g w ya yb wa wb wo g2 wq : S32768x1024.Idx → EReal) (ix2 R k) = queryRow x g w ya yb wa wb wo g2 wq R k := by
  unfold value_2 queryRow queries
  rw [squared_at]
  exact congrArg₂ dotAt (funext fun j => value_1_at x g w ya yb wa wb wo g2 R j) (funext fun j => square_at wq _ j k)

set_option maxHeartbeats 4000000 in
/-- The reference's run: its three results, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = value_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v54) = value_1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v56) = value_2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  hlo_run
  all_goals rfl

end Cert.MergeRef

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Hgrn.FrameBits
public import proofs.«01_k».proof.Proof.Hgrn.KernelVal
public import proofs.«01_k».proof.Proof.Hgrn.RefVal
public import proofs.«01_k».proof.Proof.InProj.KernelVal
public import proofs.«01_k».proof.Proof.InProj.RefVal
public import proofs.«01_k».proof.Proof.Merge.KernelVal
public import proofs.«01_k».proof.Proof.Merge.RefVal
public import Idealize.ShloMosaic.Adequacy
public import Idealize.ShloMosaic.Init

@[expose] public section

noncomputable section

namespace Cert.Proof

open Idealize.ShloMosaic Idealize.SL.Sem Cert.Kernel

/-- The kernel's result array is the reference's, from arguments that agree: at every index both are the recurrence's output. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : HgrnRef.argP m' c = Hgrn.argP m c) (h1 : HgrnRef.argG m' c = Hgrn.argG m c) (h2 : HgrnRef.argL m' c = Hgrn.argL m c) :
    (ReferenceIdeal.Step.R_main_v97 (HgrnRef.it m' c 32) (m' ((c.tc : Thread ReferenceIdeal.nD ReferenceIdeal.τ).loc ReferenceIdeal.main_arg0))
      (m' ((c.tc : Thread ReferenceIdeal.nD ReferenceIdeal.τ).loc ReferenceIdeal.main_arg1)) : S32768x512.Idx → EReal)
      = (KernelIdeal.HandValue.G6 m c : S32768x512.Idx → EReal) := by
  funext i
  obtain ⟨R, C, rfl⟩ : ∃ (R : Fin 32768) (C : Fin 512), i = ix2 R C := ⟨i 0, i 1, eq_ix2 i⟩
  refine (HgrnRef.reference_value m' c R C).trans ?_
  rw [h0, h1, h2]
  exact (Hgrn.kernel_value m c R C).symm

/-- The reference leaves its arguments as they were; it declares no semaphore. -/
theorem reference_frame : Cert.quiescent_ReferenceIdeal (hReferenceIdeal := ReferenceIdeal.Gen.facts) := fun m ρ _ =>
  (θ_run ReferenceIdeal.defs _ _).mono (fun r h => ⟨fun c => (h c).2, sem_eq_zero_of_no_sems (by decide) r.2⟩)
    (ReferenceIdeal.HandStepRun.run_iter m ρ (HgrnRef.it m) (fun _ => rfl) (fun _ _ => rfl))

/-- At the ideal reading the kernel and the reference return the same array. -/
theorem values : Cert.algebraic_KernelIdeal_ReferenceIdeal (hKernelIdeal := KernelIdeal.Gen.facts) (hReferenceIdeal := ReferenceIdeal.Gen.facts) :=
  fun m ρ m' ρ' _ hag => ⟨fun c => KernelIdeal.HandValue.G6 m c, KernelIdeal.HandValue.run m ρ,
    (θ_run ReferenceIdeal.defs _ _).mono (fun _ h c => ⟨(h c).1.trans (result_eq m m' c
        (funext fun R => funext fun C => congrFun (hag c).1 (ix2 R C))
        (funext fun e => congrFun (hag c).2.1 (ix2 0 e))
        (funext fun a => funext fun b => congrFun (hag c).2.2 (ix2 a b))), (h c).2⟩)
      (ReferenceIdeal.HandStepRun.run_iter m' ρ' (HgrnRef.it m') (fun _ => rfl) (fun _ _ => rfl))⟩

/-- The input projection's results agree, from arguments that agree: at every index both are the layer's projection. -/
theorem in_proj_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2)) :
    (InProjRef.value (m' ((c.tc : Thread Reference3Ideal.nD Reference3Ideal.τ).loc Reference3Ideal.main_arg0)) (m' ((c.tc : Thread Reference3Ideal.nD Reference3Ideal.τ).loc Reference3Ideal.main_arg1)) (m' ((c.tc : Thread Reference3Ideal.nD Reference3Ideal.τ).loc Reference3Ideal.main_arg2)) : S32768x4352.Idx → EReal)
      = InProj.result m c := by
  funext i
  obtain ⟨R, C, rfl⟩ : ∃ (R : Fin 32768) (C : Fin 4352), i = ix2 R C := ⟨i 0, i 1, eq_ix2 i⟩
  rw [h0, h1, h2]
  exact InProjRef.value_at _ _ _ R C

/-- The input projection's reference leaves its arguments as they were; it declares no semaphore. -/
theorem in_proj_reference_frame : Cert.quiescent_Reference3Ideal (hReference3Ideal := Reference3Ideal.Gen.facts) := fun m ρ _ =>
  (θ_run Reference3Ideal.defs _ _).mono (fun r h => ⟨fun c => (h c).2, sem_eq_zero_of_no_sems (by decide) r.2⟩) (InProjRef.run m ρ)

/-- At the ideal reading the input projection's kernel and its reference return the same array. -/
theorem in_proj_values : Cert.algebraic_Kernel3Ideal_Reference3Ideal (hKernel3Ideal := Kernel3Ideal.Gen.facts) (hReference3Ideal := Reference3Ideal.Gen.facts) :=
  fun m ρ m' ρ' _ hag => ⟨fun c => InProj.result m c, InProj.run m ρ,
    (θ_run Reference3Ideal.defs _ _).mono (fun _ h c => ⟨(h c).1.trans (in_proj_eq m m' c (hag c).1 (hag c).2.1 (hag c).2.2), (h c).2⟩)
      (InProjRef.run m' ρ')⟩

/-- The merge's residual rows agree, from arguments that agree. -/
theorem merge_eq_0 (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5))
    (h6 : m' ((c.tc : Thread Reference2Ideal.nD Reference2Ideal.τ).loc Reference2Ideal.main_arg6) = m ((c.tc : Thread Kernel2Ideal.nD Kernel2Ideal.τ).loc Kernel2Ideal.main_arg6))
    (h7 : m' ((c.tc : Thread Reference2Ideal.nD Reference2Ideal.τ).loc Reference2Ideal.main_arg7) = m ((c.tc : Thread Kernel2Ideal.nD Kernel2Ideal.τ).loc Kernel2Ideal.main_arg7)) :
    (MergeRef.value_0 (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4)) (m' ((c.tc : Thread Reference2Ideal.nD Reference2Ideal.τ).loc Reference2Ideal.main_arg5)) (m' ((c.tc : Thread Reference2Ideal.nD Reference2Ideal.τ).loc Reference2Ideal.main_arg6)) (m' ((c.tc : Thread Reference2Ideal.nD Reference2Ideal.τ).loc Reference2Ideal.main_arg7)) : Kernel2Ideal.S32768x1024.Idx → EReal)
      = Merge.result_10 m c := by
  funext i
  obtain ⟨R, C, rfl⟩ : ∃ (R : Fin 32768) (C : Fin 1024), i = ix2 R C := ⟨i 0, i 1, eq_ix2 i⟩
  rw [h0, h1, h2, h3, h4, h5, h6, h7]
  exact MergeRef.value_0_at _ _ _ _ _ _ _ _ R C

/-- The merge's normed rows agree, from arguments that agree. -/
theorem merge_eq_1 (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5))
    (h6 : m' ((c.tc : Thread Reference2Ideal.nD Reference2Ideal.τ).loc Reference2Ideal.main_arg6) = m ((c.tc : Thread Kernel2Ideal.nD Kernel2Ideal.τ).loc Kernel2Ideal.main_arg6))
    (h7 : m' ((c.tc : Thread Reference2Ideal.nD Reference2Ideal.τ).loc Reference2Ideal.main_arg7) = m ((c.tc : Thread Kernel2Ideal.nD Kernel2Ideal.τ).loc Kernel2Ideal.main_arg7))
    (h8 : m' ((c.tc : Thread Reference2Ideal.nD Reference2Ideal.τ).loc Reference2Ideal.main_arg8) = m ((c.tc : Thread Kernel2Ideal.nD Kernel2Ideal.τ).loc Kernel2Ideal.main_arg8)) :
    (MergeRef.value_1 (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4)) (m' ((c.tc : Thread Reference2Ideal.nD Reference2Ideal.τ).loc Reference2Ideal.main_arg5)) (m' ((c.tc : Thread Reference2Ideal.nD Reference2Ideal.τ).loc Reference2Ideal.main_arg6)) (m' ((c.tc : Thread Reference2Ideal.nD Reference2Ideal.τ).loc Reference2Ideal.main_arg7)) (m' ((c.tc : Thread Reference2Ideal.nD Reference2Ideal.τ).loc Reference2Ideal.main_arg8)) : Kernel2Ideal.S32768x1024.Idx → EReal)
      = Merge.result_11 m c := by
  funext i
  obtain ⟨R, C, rfl⟩ : ∃ (R : Fin 32768) (C : Fin 1024), i = ix2 R C := ⟨i 0, i 1, eq_ix2 i⟩
  rw [h0, h1, h2, h3, h4, h5, h6, h7, h8]
  exact MergeRef.value_1_at _ _ _ _ _ _ _ _ _ R C

/-- The merge's queries agree, from arguments that agree. -/
theorem merge_eq_2 (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5))
    (h6 : m' ((c.tc : Thread Reference2Ideal.nD Reference2Ideal.τ).loc Reference2Ideal.main_arg6) = m ((c.tc : Thread Kernel2Ideal.nD Kernel2Ideal.τ).loc Kernel2Ideal.main_arg6))
    (h7 : m' ((c.tc : Thread Reference2Ideal.nD Reference2Ideal.τ).loc Reference2Ideal.main_arg7) = m ((c.tc : Thread Kernel2Ideal.nD Kernel2Ideal.τ).loc Kernel2Ideal.main_arg7))
    (h8 : m' ((c.tc : Thread Reference2Ideal.nD Reference2Ideal.τ).loc Reference2Ideal.main_arg8) = m ((c.tc : Thread Kernel2Ideal.nD Kernel2Ideal.τ).loc Kernel2Ideal.main_arg8))
    (h9 : m' ((c.tc : Thread Reference2Ideal.nD Reference2Ideal.τ).loc Reference2Ideal.main_arg9) = m ((c.tc : Thread Kernel2Ideal.nD Kernel2Ideal.τ).loc Kernel2Ideal.main_arg9)) :
    (MergeRef.value_2 (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4)) (m' ((c.tc : Thread Reference2Ideal.nD Reference2Ideal.τ).loc Reference2Ideal.main_arg5)) (m' ((c.tc : Thread Reference2Ideal.nD Reference2Ideal.τ).loc Reference2Ideal.main_arg6)) (m' ((c.tc : Thread Reference2Ideal.nD Reference2Ideal.τ).loc Reference2Ideal.main_arg7)) (m' ((c.tc : Thread Reference2Ideal.nD Reference2Ideal.τ).loc Reference2Ideal.main_arg8)) (m' ((c.tc : Thread Reference2Ideal.nD Reference2Ideal.τ).loc Reference2Ideal.main_arg9)) : Kernel2Ideal.S32768x1024.Idx → EReal)
      = Merge.result_12 m c := by
  funext i
  obtain ⟨R, C, rfl⟩ : ∃ (R : Fin 32768) (C : Fin 1024), i = ix2 R C := ⟨i 0, i 1, eq_ix2 i⟩
  rw [h0, h1, h2, h3, h4, h5, h6, h7, h8, h9]
  exact MergeRef.value_2_at _ _ _ _ _ _ _ _ _ _ R C

/-- The merge's reference leaves its arguments as they were; it declares no semaphore. -/
theorem merge_reference_frame : Cert.quiescent_Reference2Ideal (hReference2Ideal := Reference2Ideal.Gen.facts) := fun m ρ _ =>
  (θ_run Reference2Ideal.defs _ _).mono (fun r h => ⟨fun c => (h c).2.2.2, sem_eq_zero_of_no_sems (by decide) r.2⟩) (MergeRef.run m ρ)

/-- At the ideal reading the merge's kernel and its reference return the same three arrays. -/
theorem merge_values : Cert.algebraic_Kernel2Ideal_Reference2Ideal (hKernel2Ideal := Kernel2Ideal.Gen.facts) (hReference2Ideal := Reference2Ideal.Gen.facts) :=
  fun m ρ m' ρ' _ hag => ⟨fun c => Merge.result_10 m c, fun c => Merge.result_11 m c, fun c => Merge.result_12 m c, Merge.run m ρ,
    (θ_run Reference2Ideal.defs _ _).mono (fun _ h c => ⟨
        (h c).1.trans (merge_eq_0 m m' c (hag c).1 (hag c).2.1 (hag c).2.2.1 (hag c).2.2.2.1 (hag c).2.2.2.2.1 (hag c).2.2.2.2.2.1 (hag c).2.2.2.2.2.2.1 (hag c).2.2.2.2.2.2.2.1),
        (h c).2.1.trans (merge_eq_1 m m' c (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1),
        (h c).2.2.1.trans (merge_eq_2 m m' c (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2),
        (h c).2.2.2⟩)
      (MergeRef.run m' ρ')⟩

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Hgrn.frame_kernel, fun m ρ _ => Cert.KernelIdeal.Hand.frame m ρ, reference_frame,
  fun m ρ _ => Cert.Kernel2.Gen.frame m ρ, fun m ρ _ => Cert.Kernel2Ideal.Gen.frame m ρ, merge_reference_frame,
  fun m ρ _ => Cert.Kernel3.Gen.frame m ρ, fun m ρ _ => Cert.Kernel3Ideal.Gen.frame m ρ, in_proj_reference_frame,
  trivial, values, trivial, merge_values, trivial, in_proj_values⟩

end Cert.Proof

end
